-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_RefIdeal (m : (ℓ : Loc Cert.RefIdeal.nD Cert.RefIdeal.τ Cert.RefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_RefIdeal [hRefIdeal : Cert.RefIdeal.Facts] : Prop :=
  ∀ (m : (ℓ : Loc Cert.RefIdeal.nD Cert.RefIdeal.τ Cert.RefIdeal.sig) → Buf (Elt Ideal) ℓ) (g : Dev Cert.RefIdeal.nD → PrngReg), Pre_RefIdeal m →
    θ_run (Cert.RefIdeal.defs (F := Ideal)) (onTc (τ := Cert.RefIdeal.τ) (Cert.RefIdeal.main (F := Ideal))) ⟨m, fun _ => 0, g⟩ (fun r => (∀ c : Dev Cert.RefIdeal.nD,
      r.2.mem ((c.tc : Thread Cert.RefIdeal.nD Cert.RefIdeal.τ).loc Cert.RefIdeal.main_arg0) = m ((c.tc : Thread Cert.RefIdeal.nD Cert.RefIdeal.τ).loc Cert.RefIdeal.main_arg0)
      ∧ r.2.mem ((c.tc : Thread Cert.RefIdeal.nD Cert.RefIdeal.τ).loc Cert.RefIdeal.main_arg1) = m ((c.tc : Thread Cert.RefIdeal.nD Cert.RefIdeal.τ).loc Cert.RefIdeal.main_arg1)
      ∧ r.2.mem ((c.tc : Thread Cert.RefIdeal.nD Cert.RefIdeal.τ).loc Cert.RefIdeal.main_arg2) = m ((c.tc : Thread Cert.RefIdeal.nD Cert.RefIdeal.τ).loc Cert.RefIdeal.main_arg2)
      ∧ r.2.mem ((c.tc : Thread Cert.RefIdeal.nD Cert.RefIdeal.τ).loc Cert.RefIdeal.main_arg3) = m ((c.tc : Thread Cert.RefIdeal.nD Cert.RefIdeal.τ).loc Cert.RefIdeal.main_arg3)
      ∧ r.2.mem ((c.tc : Thread Cert.RefIdeal.nD Cert.RefIdeal.τ).loc Cert.RefIdeal.main_arg4) = m ((c.tc : Thread Cert.RefIdeal.nD Cert.RefIdeal.τ).loc Cert.RefIdeal.main_arg4)
      ∧ r.2.mem ((c.tc : Thread Cert.RefIdeal.nD Cert.RefIdeal.τ).loc Cert.RefIdeal.main_arg5) = m ((c.tc : Thread Cert.RefIdeal.nD Cert.RefIdeal.τ).loc Cert.RefIdeal.main_arg5)
      ∧ r.2.mem ((c.tc : Thread Cert.RefIdeal.nD Cert.RefIdeal.τ).loc Cert.RefIdeal.main_arg6) = m ((c.tc : Thread Cert.RefIdeal.nD Cert.RefIdeal.τ).loc Cert.RefIdeal.main_arg6)
      ∧ r.2.mem ((c.tc : Thread Cert.RefIdeal.nD Cert.RefIdeal.τ).loc Cert.RefIdeal.main_arg7) = m ((c.tc : Thread Cert.RefIdeal.nD Cert.RefIdeal.τ).loc Cert.RefIdeal.main_arg7)
      ∧ r.2.mem ((c.tc : Thread Cert.RefIdeal.nD Cert.RefIdeal.τ).loc Cert.RefIdeal.main_arg8) = m ((c.tc : Thread Cert.RefIdeal.nD Cert.RefIdeal.τ).loc Cert.RefIdeal.main_arg8)
      ∧ r.2.mem ((c.tc : Thread Cert.RefIdeal.nD Cert.RefIdeal.τ).loc Cert.RefIdeal.main_arg9) = m ((c.tc : Thread Cert.RefIdeal.nD Cert.RefIdeal.τ).loc Cert.RefIdeal.main_arg9)
      ∧ r.2.mem ((c.tc : Thread Cert.RefIdeal.nD Cert.RefIdeal.τ).loc Cert.RefIdeal.main_arg10) = m ((c.tc : Thread Cert.RefIdeal.nD Cert.RefIdeal.τ).loc Cert.RefIdeal.main_arg10)
      ∧ r.2.mem ((c.tc : Thread Cert.RefIdeal.nD Cert.RefIdeal.τ).loc Cert.RefIdeal.main_arg11) = m ((c.tc : Thread Cert.RefIdeal.nD Cert.RefIdeal.τ).loc Cert.RefIdeal.main_arg11)
      ∧ r.2.mem ((c.tc : Thread Cert.RefIdeal.nD Cert.RefIdeal.τ).loc Cert.RefIdeal.main_arg12) = m ((c.tc : Thread Cert.RefIdeal.nD Cert.RefIdeal.τ).loc Cert.RefIdeal.main_arg12))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def preserves_Kernel_KernelIdeal : Prop :=
  True

def algebraic_KernelIdeal_RefIdeal [hKernelIdeal : Cert.KernelIdeal.Facts] [hRefIdeal : Cert.RefIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.RefIdeal.nD Cert.RefIdeal.τ Cert.RefIdeal.sig) → Buf (Elt Ideal) ℓ) (g' : Dev Cert.RefIdeal.nD → PrngReg), Pre_KernelIdeal m →
    (∀ c : Dev Cert.KernelIdeal.nD,
      m' ((c.tc : Thread Cert.RefIdeal.nD Cert.RefIdeal.τ).loc Cert.RefIdeal.main_arg0) = m ((c.tc : Thread Cert.KernelIdeal.nD Cert.KernelIdeal.τ).loc Cert.KernelIdeal.main_arg0)
      ∧ m' ((c.tc : Thread Cert.RefIdeal.nD Cert.RefIdeal.τ).loc Cert.RefIdeal.main_arg1) = m ((c.tc : Thread Cert.KernelIdeal.nD Cert.KernelIdeal.τ).loc Cert.KernelIdeal.main_arg1)
      ∧ m' ((c.tc : Thread Cert.RefIdeal.nD Cert.RefIdeal.τ).loc Cert.RefIdeal.main_arg2) = m ((c.tc : Thread Cert.KernelIdeal.nD Cert.KernelIdeal.τ).loc Cert.KernelIdeal.main_arg2)
      ∧ m' ((c.tc : Thread Cert.RefIdeal.nD Cert.RefIdeal.τ).loc Cert.RefIdeal.main_arg3) = m ((c.tc : Thread Cert.KernelIdeal.nD Cert.KernelIdeal.τ).loc Cert.KernelIdeal.main_arg3)
      ∧ m' ((c.tc : Thread Cert.RefIdeal.nD Cert.RefIdeal.τ).loc Cert.RefIdeal.main_arg4) = m ((c.tc : Thread Cert.KernelIdeal.nD Cert.KernelIdeal.τ).loc Cert.KernelIdeal.main_arg4)
      ∧ m' ((c.tc : Thread Cert.RefIdeal.nD Cert.RefIdeal.τ).loc Cert.RefIdeal.main_arg5) = m ((c.tc : Thread Cert.KernelIdeal.nD Cert.KernelIdeal.τ).loc Cert.KernelIdeal.main_arg5)
      ∧ m' ((c.tc : Thread Cert.RefIdeal.nD Cert.RefIdeal.τ).loc Cert.RefIdeal.main_arg6) = m ((c.tc : Thread Cert.KernelIdeal.nD Cert.KernelIdeal.τ).loc Cert.KernelIdeal.main_arg6)
      ∧ m' ((c.tc : Thread Cert.RefIdeal.nD Cert.RefIdeal.τ).loc Cert.RefIdeal.main_arg7) = m ((c.tc : Thread Cert.KernelIdeal.nD Cert.KernelIdeal.τ).loc Cert.KernelIdeal.main_arg7)
      ∧ m' ((c.tc : Thread Cert.RefIdeal.nD Cert.RefIdeal.τ).loc Cert.RefIdeal.main_arg8) = m ((c.tc : Thread Cert.KernelIdeal.nD Cert.KernelIdeal.τ).loc Cert.KernelIdeal.main_arg8)
      ∧ m' ((c.tc : Thread Cert.RefIdeal.nD Cert.RefIdeal.τ).loc Cert.RefIdeal.main_arg9) = m ((c.tc : Thread Cert.KernelIdeal.nD Cert.KernelIdeal.τ).loc Cert.KernelIdeal.main_arg9)
      ∧ m' ((c.tc : Thread Cert.RefIdeal.nD Cert.RefIdeal.τ).loc Cert.RefIdeal.main_arg10) = m ((c.tc : Thread Cert.KernelIdeal.nD Cert.KernelIdeal.τ).loc Cert.KernelIdeal.main_arg10)
      ∧ m' ((c.tc : Thread Cert.RefIdeal.nD Cert.RefIdeal.τ).loc Cert.RefIdeal.main_arg11) = m ((c.tc : Thread Cert.KernelIdeal.nD Cert.KernelIdeal.τ).loc Cert.KernelIdeal.main_arg11)
      ∧ m' ((c.tc : Thread Cert.RefIdeal.nD Cert.RefIdeal.τ).loc Cert.RefIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_2)) (v3 : (c : Dev Cert.KernelIdeal.nD) → Buf (Elt Ideal) ((c.tc : Thread Cert.KernelIdeal.nD Cert.KernelIdeal.τ).loc Cert.KernelIdeal.main_v11_3)) (v4 : (c : Dev Cert.KernelIdeal.nD) → Buf (Elt Ideal) ((c.tc : Thread Cert.KernelIdeal.nD Cert.KernelIdeal.τ).loc Cert.KernelIdeal.main_v11_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v11_2) = v2 c
          ∧ r.2.mem ((c.tc : Thread Cert.KernelIdeal.nD Cert.KernelIdeal.τ).loc Cert.KernelIdeal.main_v11_3) = v3 c
          ∧ r.2.mem ((c.tc : Thread Cert.KernelIdeal.nD Cert.KernelIdeal.τ).loc Cert.KernelIdeal.main_v11_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.RefIdeal.defs (F := Ideal)) (onTc (τ := Cert.RefIdeal.τ) (Cert.RefIdeal.main (F := Ideal))) ⟨m', fun _ => 0, g'⟩ (fun r => ∀ c : Dev Cert.RefIdeal.nD,
          r.2.mem ((c.tc : Thread Cert.RefIdeal.nD Cert.RefIdeal.τ).loc Cert.RefIdeal.main_v32) = v0 c
          ∧ r.2.mem ((c.tc : Thread Cert.RefIdeal.nD Cert.RefIdeal.τ).loc Cert.RefIdeal.main_v66) = v1 c
          ∧ r.2.mem ((c.tc : Thread Cert.RefIdeal.nD Cert.RefIdeal.τ).loc Cert.RefIdeal.main_v67) = v2 c
          ∧ r.2.mem ((c.tc : Thread Cert.RefIdeal.nD Cert.RefIdeal.τ).loc Cert.RefIdeal.main_v68) = v3 c
          ∧ r.2.mem ((c.tc : Thread Cert.RefIdeal.nD Cert.RefIdeal.τ).loc Cert.RefIdeal.main_v69) = v4 c
          ∧ r.2.mem ((c.tc : Thread Cert.RefIdeal.nD Cert.RefIdeal.τ).loc Cert.RefIdeal.main_arg0) = m' ((c.tc : Thread Cert.RefIdeal.nD Cert.RefIdeal.τ).loc Cert.RefIdeal.main_arg0)
          ∧ r.2.mem ((c.tc : Thread Cert.RefIdeal.nD Cert.RefIdeal.τ).loc Cert.RefIdeal.main_arg1) = m' ((c.tc : Thread Cert.RefIdeal.nD Cert.RefIdeal.τ).loc Cert.RefIdeal.main_arg1)
          ∧ r.2.mem ((c.tc : Thread Cert.RefIdeal.nD Cert.RefIdeal.τ).loc Cert.RefIdeal.main_arg2) = m' ((c.tc : Thread Cert.RefIdeal.nD Cert.RefIdeal.τ).loc Cert.RefIdeal.main_arg2)
          ∧ r.2.mem ((c.tc : Thread Cert.RefIdeal.nD Cert.RefIdeal.τ).loc Cert.RefIdeal.main_arg3) = m' ((c.tc : Thread Cert.RefIdeal.nD Cert.RefIdeal.τ).loc Cert.RefIdeal.main_arg3)
          ∧ r.2.mem ((c.tc : Thread Cert.RefIdeal.nD Cert.RefIdeal.τ).loc Cert.RefIdeal.main_arg4) = m' ((c.tc : Thread Cert.RefIdeal.nD Cert.RefIdeal.τ).loc Cert.RefIdeal.main_arg4)
          ∧ r.2.mem ((c.tc : Thread Cert.RefIdeal.nD Cert.RefIdeal.τ).loc Cert.RefIdeal.main_arg5) = m' ((c.tc : Thread Cert.RefIdeal.nD Cert.RefIdeal.τ).loc Cert.RefIdeal.main_arg5)
          ∧ r.2.mem ((c.tc : Thread Cert.RefIdeal.nD Cert.RefIdeal.τ).loc Cert.RefIdeal.main_arg6) = m' ((c.tc : Thread Cert.RefIdeal.nD Cert.RefIdeal.τ).loc Cert.RefIdeal.main_arg6)
          ∧ r.2.mem ((c.tc : Thread Cert.RefIdeal.nD Cert.RefIdeal.τ).loc Cert.RefIdeal.main_arg7) = m' ((c.tc : Thread Cert.RefIdeal.nD Cert.RefIdeal.τ).loc Cert.RefIdeal.main_arg7)
          ∧ r.2.mem ((c.tc : Thread Cert.RefIdeal.nD Cert.RefIdeal.τ).loc Cert.RefIdeal.main_arg8) = m' ((c.tc : Thread Cert.RefIdeal.nD Cert.RefIdeal.τ).loc Cert.RefIdeal.main_arg8)
          ∧ r.2.mem ((c.tc : Thread Cert.RefIdeal.nD Cert.RefIdeal.τ).loc Cert.RefIdeal.main_arg9) = m' ((c.tc : Thread Cert.RefIdeal.nD Cert.RefIdeal.τ).loc Cert.RefIdeal.main_arg9)
          ∧ r.2.mem ((c.tc : Thread Cert.RefIdeal.nD Cert.RefIdeal.τ).loc Cert.RefIdeal.main_arg10) = m' ((c.tc : Thread Cert.RefIdeal.nD Cert.RefIdeal.τ).loc Cert.RefIdeal.main_arg10)
          ∧ r.2.mem ((c.tc : Thread Cert.RefIdeal.nD Cert.RefIdeal.τ).loc Cert.RefIdeal.main_arg11) = m' ((c.tc : Thread Cert.RefIdeal.nD Cert.RefIdeal.τ).loc Cert.RefIdeal.main_arg11)
          ∧ r.2.mem ((c.tc : Thread Cert.RefIdeal.nD Cert.RefIdeal.τ).loc Cert.RefIdeal.main_arg12) = m' ((c.tc : Thread Cert.RefIdeal.nD Cert.RefIdeal.τ).loc Cert.RefIdeal.main_arg12))

def preserves_Up_UpIdeal : Prop :=
  IdealRules.named_const.Statement Cert.UpIdeal.κ "neg_log2_e" .f32 0xBFB8AA3B#32 ((-((Real.log 2)⁻¹) : ℝ) : EReal)

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)) →
    ∃ (v0 : (c : Dev Cert.UpIdeal.nD) → Buf (Elt Ideal) ((c.tc : Thread Cert.UpIdeal.nD Cert.UpIdeal.τ).loc Cert.UpIdeal.main_v1_0)) (v1 : (c : Dev Cert.UpIdeal.nD) → Buf (Elt Ideal) ((c.tc : Thread Cert.UpIdeal.nD Cert.UpIdeal.τ).loc Cert.UpIdeal.main_v1_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v1_0) = v0 c
          ∧ r.2.mem ((c.tc : Thread Cert.UpIdeal.nD Cert.UpIdeal.τ).loc Cert.UpIdeal.main_v1_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v6) = v0 c
          ∧ r.2.mem ((c.tc : Thread Cert.UpRefIdeal.nD Cert.UpRefIdeal.τ).loc Cert.UpRefIdeal.main_v7) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v28) = v0 c
          ∧ r.2.mem ((c.tc : Thread Cert.DownRefIdeal.nD Cert.DownRefIdeal.τ).loc Cert.DownRefIdeal.main_v29) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def Claim : Prop :=
  ∃ (hKernel : Cert.Kernel.Facts) (hKernelIdeal : Cert.KernelIdeal.Facts) (hRefIdeal : Cert.RefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts),
    quiescent_Kernel (hKernel := hKernel)
    ∧ quiescent_KernelIdeal (hKernelIdeal := hKernelIdeal)
    ∧ quiescent_RefIdeal (hRefIdeal := hRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ preserves_Kernel_KernelIdeal
    ∧ algebraic_KernelIdeal_RefIdeal (hKernelIdeal := hKernelIdeal) (hRefIdeal := hRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
-- ==== Kernel.lean ====
abbrev S64x544x256 : Shape := ⟨3, ![64, 544, 256]⟩
abbrev S8704x1024 : Shape := ⟨2, ![8704, 1024]⟩
abbrev S64x256x256 : Shape := ⟨3, ![64, 256, 256]⟩
abbrev S64x256x128 : Shape := ⟨3, ![64, 256, 128]⟩
abbrev S64x128x128 : Shape := ⟨3, ![64, 128, 128]⟩
abbrev S64x64 : Shape := ⟨2, ![64, 64]⟩
abbrev S128x4096 : Shape := ⟨2, ![128, 4096]⟩
abbrev S64x128 : Shape := ⟨2, ![64, 128]⟩
abbrev S64x1x128 : Shape := ⟨3, ![64, 1, 128]⟩
abbrev S64x4x128 : Shape := ⟨3, ![64, 4, 128]⟩
abbrev S128x1024 : Shape := ⟨2, ![128, 1024]⟩
abbrev S8x544x256 : Shape := ⟨3, ![8, 544, 256]⟩
abbrev S256x128 : Shape := ⟨2, ![256, 128]⟩
abbrev S8x256x256 : Shape := ⟨3, ![8, 256, 256]⟩
abbrev S8x256x128 : Shape := ⟨3, ![8, 256, 128]⟩
abbrev S8x128x128 : Shape := ⟨3, ![8, 128, 128]⟩
abbrev S8x4x128 : Shape := ⟨3, ![8, 4, 128]⟩
abbrev S128x512 : Shape := ⟨2, ![128, 512]⟩
abbrev S128x128 : Shape := ⟨2, ![128, 128]⟩
abbrev S8x552x128 : Shape := ⟨3, ![8, 552, 128]⟩
abbrev S1x544x256 : Shape := ⟨3, ![1, 544, 256]⟩
abbrev S544x256 : Shape := ⟨2, ![544, 256]⟩
abbrev S1x256x128 : Shape := ⟨3, ![1, 256, 128]⟩
abbrev S544x128 : Shape := ⟨2, ![544, 128]⟩
abbrev S1x128x128 : Shape := ⟨3, ![1, 128, 128]⟩
abbrev S8x128 : Shape := ⟨2, ![8, 128]⟩
abbrev S1x8x128 : Shape := ⟨3, ![1, 8, 128]⟩
abbrev S1x1x128 : Shape := ⟨3, ![1, 1, 128]⟩
abbrev S1x128 : Shape := ⟨2, ![1, 128]⟩
abbrev S4x128 : Shape := ⟨2, ![4, 128]⟩
abbrev S1x4x128 : Shape := ⟨3, ![1, 4, 128]⟩
abbrev S32x128 : Shape := ⟨2, ![32, 128]⟩
abbrev S1x256x256 : Shape := ⟨3, ![1, 256, 256]⟩
abbrev S256x256 : Shape := ⟨2, ![256, 256]⟩
abbrev S128x64 : Shape := ⟨2, ![128, 64]⟩

abbrev nBuf : Space → Nat
  | .hbm => 29
  | .vmem => 33
  | .smem => 0
  | _ => 0

abbrev bufTy : (tb : Table) → Fin (tcTables nBuf tb) → BufTy
  | .hbm, ⟨0, _⟩ => ⟨S64x544x256, .bf16⟩
  | .hbm, ⟨1, _⟩ => ⟨S8704x1024, .f32⟩
  | .hbm, ⟨2, _⟩ => ⟨S64x256x256, .bf16⟩
  | .hbm, ⟨3, _⟩ => ⟨S64x256x128, .bf16⟩
  | .hbm, ⟨4, _⟩ => ⟨S64x256x128, .bf16⟩
  | .hbm, ⟨5, _⟩ => ⟨S64x128x128, .bf16⟩
  | .hbm, ⟨6, _⟩ => ⟨S64x128x128, .bf16⟩
  | .hbm, ⟨7, _⟩ => ⟨S64x64, .f32⟩
  | .hbm, ⟨8, _⟩ => ⟨S64x64, .f32⟩
  | .hbm, ⟨9, _⟩ => ⟨S64x64, .f32⟩
  | .hbm, ⟨10, _⟩ => ⟨S64x64, .f32⟩
  | .hbm, ⟨11, _⟩ => ⟨S128x4096, .f32⟩
  | .hbm, ⟨12, _⟩ => ⟨S128x4096, .f32⟩
  | .hbm, ⟨13, _⟩ => ⟨S64x128, .f32⟩
  | .hbm, ⟨14, _⟩ => ⟨S64x64, .f32⟩
  | .hbm, ⟨15, _⟩ => ⟨S64x128, .f32⟩
  | .hbm, ⟨16, _⟩ => ⟨S64x128, .f32⟩
  | .hbm, ⟨17, _⟩ => ⟨S64x64, .f32⟩
  | .hbm, ⟨18, _⟩ => ⟨S64x128, .f32⟩
  | .hbm, ⟨19, _⟩ => ⟨S64x1x128, .f32⟩
  | .hbm, ⟨20, _⟩ => ⟨S64x1x128, .f32⟩
  | .hbm, ⟨21, _⟩ => ⟨S64x1x128, .f32⟩
  | .hbm, ⟨22, _⟩ => ⟨S64x1x128, .f32⟩
  | .hbm, ⟨23, _⟩ => ⟨S64x4x128, .f32⟩
  | .hbm, ⟨24, _⟩ => ⟨S64x544x256, .f32⟩
  | .hbm, ⟨25, _⟩ => ⟨S128x1024, .f32⟩
  | .hbm, ⟨26, _⟩ => ⟨S64x4x128, .f32⟩
  | .hbm, ⟨27, _⟩ => ⟨S128x4096, .f32⟩
  | .hbm, ⟨28, _⟩ => ⟨S128x4096, .f32⟩
  | .local _ .vmem, ⟨0, _⟩ => ⟨S8x544x256, .bf16⟩
  | .local _ .vmem, ⟨1, _⟩ => ⟨S8x544x256, .bf16⟩
  | .local _ .vmem, ⟨2, _⟩ => ⟨S256x128, .f32⟩
  | .local _ .vmem, ⟨3, _⟩ => ⟨S256x128, .f32⟩
  | .local _ .vmem, ⟨4, _⟩ => ⟨S8x256x256, .bf16⟩
  | .local _ .vmem, ⟨5, _⟩ => ⟨S8x256x256, .bf16⟩
  | .local _ .vmem, ⟨6, _⟩ => ⟨S8x256x128, .bf16⟩
  | .local _ .vmem, ⟨7, _⟩ => ⟨S8x256x128, .bf16⟩
  | .local _ .vmem, ⟨8, _⟩ => ⟨S8x256x128, .bf16⟩
  | .local _ .vmem, ⟨9, _⟩ => ⟨S8x256x128, .bf16⟩
  | .local _ .vmem, ⟨10, _⟩ => ⟨S8x128x128, .bf16⟩
  | .local _ .vmem, ⟨11, _⟩ => ⟨S8x128x128, .bf16⟩
  | .local _ .vmem, ⟨12, _⟩ => ⟨S8x128x128, .bf16⟩
  | .local _ .vmem, ⟨13, _⟩ => ⟨S8x128x128, .bf16⟩
  | .local _ .vmem, ⟨14, _⟩ => ⟨S8x4x128, .f32⟩
  | .local _ .vmem, ⟨15, _⟩ => ⟨S8x4x128, .f32⟩
  | .local _ .vmem, ⟨16, _⟩ => ⟨S128x512, .f32⟩
  | .local _ .vmem, ⟨17, _⟩ => ⟨S128x512, .f32⟩
  | .local _ .vmem, ⟨18, _⟩ => ⟨S128x512, .f32⟩
  | .local _ .vmem, ⟨19, _⟩ => ⟨S128x512, .f32⟩
  | .local _ .vmem, ⟨20, _⟩ => ⟨S8x544x256, .f32⟩
  | .local _ .vmem, ⟨21, _⟩ => ⟨S8x544x256, .f32⟩
  | .local _ .vmem, ⟨22, _⟩ => ⟨S128x128, .f32⟩
  | .local _ .vmem, ⟨23, _⟩ => ⟨S128x128, .f32⟩
  | .local _ .vmem, ⟨24, _⟩ => ⟨S8x4x128, .f32⟩
  | .local _ .vmem, ⟨25, _⟩ => ⟨S8x4x128, .f32⟩
  | .local _ .vmem, ⟨26, _⟩ => ⟨S128x512, .f32⟩
  | .local _ .vmem, ⟨27, _⟩ => ⟨S128x512, .f32⟩
  | .local _ .vmem, ⟨28, _⟩ => ⟨S128x512, .f32⟩
  | .local _ .vmem, ⟨29, _⟩ => ⟨S128x512, .f32⟩
  | .local _ .vmem, ⟨30, _⟩ => ⟨S8x552x128, .f32⟩
  | .local _ .vmem, ⟨31, _⟩ => ⟨S8x552x128, .f32⟩
  | .local _ .vmem, ⟨32, _⟩ => ⟨S8x552x128, .f32⟩
  | _, _ => ⟨S64x544x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11_0 : Ref sig .tc := ⟨.hbm, 24, rfl⟩
abbrev main_v11_1 : Ref sig .tc := ⟨.hbm, 25, rfl⟩
abbrev main_v11_2 : Ref sig .tc := ⟨.hbm, 26, rfl⟩
abbrev main_v11_3 : Ref sig .tc := ⟨.hbm, 27, rfl⟩
abbrev main_v11_4 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c128_i32 : BitVec 32 := 128#32
  let v464 : BitVec 32 := Scalar.addi c0_i32 c128_i32
  let c1_i32 : BitVec 32 := 1#32
  ⟨c0_i32, v464, c1_i32⟩
def k0_off1 (k0_t1 : Fin k0_t1_loop.trips) : Fin 3 → Nat :=
  let c0_808 : Index := 0#32
  let c0_i32 : BitVec 32 := 0#32
  let c1_i32 : BitVec 32 := 1#32
  let arg19 : BitVec 32 := Scf.iv c0_i32 c1_i32 k0_t1
  let v886 : Index := Scalar.indexCast arg19
  let c0_809 : Index := 0#32
  ![0, v886.toNat, 0]
def k0_off2 (k0_t1 : Fin k0_t1_loop.trips) : Fin 3 → Nat :=
  let c1_814 : Index := 1#32
  let c0_i32 : BitVec 32 := 0#32
  let c1_i32 : BitVec 32 := 1#32
  let arg19 : BitVec 32 := Scf.iv c0_i32 c1_i32 k0_t1
  let v908 : Index := Scalar.indexCast arg19
  let c0_815 : Index := 0#32
  ![1, v908.toNat, 0]
def k0_off3 (k0_t1 : Fin k0_t1_loop.trips) : Fin 3 → Nat :=
  let c2_820 : Index := 2#32
  let c0_i32 : BitVec 32 := 0#32
  let c1_i32 : BitVec 32 := 1#32
  let arg19 : BitVec 32 := Scf.iv c0_i32 c1_i32 k0_t1
  let v930 : Index := Scalar.indexCast arg19
  let c0_821 : Index := 0#32
  ![2, v930.toNat, 0]
def k0_off4 (k0_t1 : Fin k0_t1_loop.trips) : Fin 3 → Nat :=
  let c3_826 : Index := 3#32
  let c0_i32 : BitVec 32 := 0#32
  let c1_i32 : BitVec 32 := 1#32
  let arg19 : BitVec 32 := Scf.iv c0_i32 c1_i32 k0_t1
  let v952 : Index := Scalar.indexCast arg19
  let c0_827 : Index := 0#32
  ![3, v952.toNat, 0]
def k0_off5 (k0_t1 : Fin k0_t1_loop.trips) : Fin 3 → Nat :=
  let c4_832 : Index := 4#32
  let c0_i32 : BitVec 32 := 0#32
  let c1_i32 : BitVec 32 := 1#32
  let arg19 : BitVec 32 := Scf.iv c0_i32 c1_i32 k0_t1
  let v974 : Index := Scalar.indexCast arg19
  let c0_833 : Index := 0#32
  ![4, v974.toNat, 0]
def k0_off6 (k0_t1 : Fin k0_t1_loop.trips) : Fin 3 → Nat :=
  let c5_838 : Index := 5#32
  let c0_i32 : BitVec 32 := 0#32
  let c1_i32 : BitVec 32 := 1#32
  let arg19 : BitVec 32 := Scf.iv c0_i32 c1_i32 k0_t1
  let v996 : Index := Scalar.indexCast arg19
  let c0_839 : Index := 0#32
  ![5, v996.toNat, 0]
def k0_off7 (k0_t1 : Fin k0_t1_loop.trips) : Fin 3 → Nat :=
  let c6_844 : Index := 6#32
  let c0_i32 : BitVec 32 := 0#32
  let c1_i32 : BitVec 32 := 1#32
  let arg19 : BitVec 32 := Scf.iv c0_i32 c1_i32 k0_t1
  let v1018 : Index := Scalar.indexCast arg19
  let c0_845 : Index := 0#32
  ![6, v1018.toNat, 0]
def k0_off8 (k0_t1 : Fin k0_t1_loop.trips) : Fin 3 → Nat :=
  let c7_850 : Index := 7#32
  let c0_i32 : BitVec 32 := 0#32
  let c1_i32 : BitVec 32 := 1#32
  let arg19 : BitVec 32 := Scf.iv c0_i32 c1_i32 k0_t1
  let v1040 : Index := Scalar.indexCast arg19
  let c0_851 : Index := 0#32
  ![7, v1040.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c32_i32 : BitVec 32 := 32#32
  let c0_i32 : BitVec 32 := 0#32
  ![c32_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x544x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x4x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x544x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x4x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== RefIdeal.lean ====
abbrev S64x544x256 : Shape := ⟨3, ![64, 544, 256]⟩
abbrev S8704x1024 : Shape := ⟨2, ![8704, 1024]⟩
abbrev S64x256x256 : Shape := ⟨3, ![64, 256, 256]⟩
abbrev S64x256x128 : Shape := ⟨3, ![64, 256, 128]⟩
abbrev S64x128x128 : Shape := ⟨3, ![64, 128, 128]⟩
abbrev S64x64 : Shape := ⟨2, ![64, 64]⟩
abbrev S128x4096 : Shape := ⟨2, ![128, 4096]⟩
abbrev S64x544x128 : Shape := ⟨3, ![64, 544, 128]⟩
abbrev S64x544x64 : Shape := ⟨3, ![64, 544, 64]⟩
abbrev S64x512x64 : Shape := ⟨3, ![64, 512, 64]⟩
abbrev S64x4x128x64 : Shape := ⟨4, ![64, 4, 128, 64]⟩
abbrev S128x64x4x64 : Shape := ⟨4, ![128, 64, 4, 64]⟩
abbrev S_ : Shape := ⟨0, ![]⟩
abbrev S64x1x64 : Shape := ⟨3, ![64, 1, 64]⟩
abbrev S64x4x64 : Shape := ⟨3, ![64, 4, 64]⟩
abbrev S1x64x4x64 : Shape := ⟨4, ![1, 64, 4, 64]⟩
abbrev S64x512x128 : Shape := ⟨3, ![64, 512, 128]⟩
abbrev S128x1024 : Shape := ⟨2, ![128, 1024]⟩
abbrev S128x8x128 : Shape := ⟨3, ![128, 8, 128]⟩
abbrev S8x8x128x128 : Shape := ⟨4, ![8, 8, 128, 128]⟩
abbrev S128x8x8x128 : Shape := ⟨4, ![128, 8, 8, 128]⟩
abbrev S128x64x128 : Shape := ⟨3, ![128, 64, 128]⟩
abbrev S128x64x64 : Shape := ⟨3, ![128, 64, 64]⟩
abbrev S1x64x64 : Shape := ⟨3, ![1, 64, 64]⟩
abbrev S8x128x128 : Shape := ⟨3, ![8, 128, 128]⟩
abbrev S64x4x128 : Shape := ⟨3, ![64, 4, 128]⟩

abbrev nBuf : Space → Nat
  | .hbm => 161
  | .vmem => 0
  | .smem => 0
  | _ => 0

abbrev hbmTy0_0 (i : Nat) : BufTy := match i % 128 with
  | 0 => ⟨S64x544x256, .bf16⟩
  | 1 => ⟨S8704x1024, .f32⟩
  | 2 => ⟨S64x256x256, .bf16⟩
  | 3 => ⟨S64x256x128, .bf16⟩
  | 4 => ⟨S64x256x128, .bf16⟩
  | 5 => ⟨S64x128x128, .bf16⟩
  | 6 => ⟨S64x128x128, .bf16⟩
  | 7 => ⟨S64x64, .f32⟩
  | 8 => ⟨S64x64, .f32⟩
  | 9 => ⟨S64x64, .f32⟩
  | 10 => ⟨S64x64, .f32⟩
  | 11 => ⟨S128x4096, .f32⟩
  | 12 => ⟨S128x4096, .f32⟩
  | 13 => ⟨S64x544x256, .f32⟩
  | 14 => ⟨S64x256x128, .f32⟩
  | 15 => ⟨S64x544x128, .f32⟩
  | 16 => ⟨S64x544x64, .f32⟩
  | 17 => ⟨S64x544x64, .f32⟩
  | 18 => ⟨S64x512x64, .f32⟩
  | 19 => ⟨S64x4x128x64, .f32⟩
  | 20 => ⟨S128x64x4x64, .f32⟩
  | 21 => ⟨S64x512x64, .f32⟩
  | 22 => ⟨S64x4x128x64, .f32⟩
  | 23 => ⟨S128x64x4x64, .f32⟩
  | 24 => ⟨S_, .f32⟩
  | 25 => ⟨S128x64x4x64, .f32⟩
  | 26 => ⟨S64x1x64, .f32⟩
  | 27 => ⟨S64x64, .f32⟩
  | 28 => ⟨S64x1x64, .f32⟩
  | 29 => ⟨S64x4x64, .f32⟩
  | 30 => ⟨S64x1x64, .f32⟩
  | 31 => ⟨S64x64, .f32⟩
  | 32 => ⟨S64x1x64, .f32⟩
  | 33 => ⟨S64x4x64, .f32⟩
  | 34 => ⟨S_, .i32⟩
  | 35 => ⟨S_, .i32⟩
  | 36 => ⟨S64x64, .f32⟩
  | 37 => ⟨S64x64, .f32⟩
  | 38 => ⟨S128x64x4x64, .f32⟩
  | 39 => ⟨S128x64x4x64, .f32⟩
  | 40 => ⟨S_, .i32⟩
  | 41 => ⟨S_, .i32⟩
  | 42 => ⟨S64x4x64, .f32⟩
  | 43 => ⟨S64x4x64, .f32⟩
  | 44 => ⟨S128x64x4x64, .f32⟩
  | 45 => ⟨S128x64x4x64, .f32⟩
  | 46 => ⟨S_, .i32⟩
  | 47 => ⟨S_, .i1⟩
  | 48 => ⟨S_, .i32⟩
  | 49 => ⟨S_, .i32⟩
  | 50 => ⟨S1x64x4x64, .f32⟩
  | 51 => ⟨S_, .i32⟩
  | 52 => ⟨S_, .i1⟩
  | 53 => ⟨S_, .i32⟩
  | 54 => ⟨S_, .i32⟩
  | 55 => ⟨S_, .i32⟩
  | 56 => ⟨S_, .i32⟩
  | 57 => ⟨S_, .i32⟩
  | 58 => ⟨S_, .i32⟩
  | 59 => ⟨S_, .i32⟩
  | 60 => ⟨S128x64x4x64, .f32⟩
  | 61 => ⟨S1x64x4x64, .f32⟩
  | 62 => ⟨S_, .i32⟩
  | 63 => ⟨S_, .i1⟩
  | 64 => ⟨S_, .i32⟩
  | 65 => ⟨S_, .i32⟩
  | 66 => ⟨S_, .i32⟩
  | 67 => ⟨S_, .i32⟩
  | 68 => ⟨S_, .i32⟩
  | 69 => ⟨S_, .i32⟩
  | 70 => ⟨S_, .i32⟩
  | 71 => ⟨S128x64x4x64, .f32⟩
  | 72 => ⟨S64x1x64, .f32⟩
  | 73 => ⟨S64x1x64, .f32⟩
  | 74 => ⟨S_, .i32⟩
  | 75 => ⟨S_, .i1⟩
  | 76 => ⟨S_, .i32⟩
  | 77 => ⟨S_, .i32⟩
  | 78 => ⟨S_, .i32⟩
  | 79 => ⟨S_, .i32⟩
  | 80 => ⟨S_, .i32⟩
  | 81 => ⟨S_, .i32⟩
  | 82 => ⟨S_, .i32⟩
  | 83 => ⟨S1x64x4x64, .f32⟩
  | 84 => ⟨S64x4x64, .f32⟩
  | 85 => ⟨S_, .i32⟩
  | 86 => ⟨S_, .i1⟩
  | 87 => ⟨S_, .i32⟩
  | 88 => ⟨S_, .i32⟩
  | 89 => ⟨S_, .i32⟩
  | 90 => ⟨S_, .i32⟩
  | 91 => ⟨S_, .i32⟩
  | 92 => ⟨S_, .i32⟩
  | 93 => ⟨S_, .i32⟩
  | 94 => ⟨S1x64x4x64, .f32⟩
  | 95 => ⟨S64x4x64, .f32⟩
  | 96 => ⟨S64x4x64, .f32⟩
  | 97 => ⟨S64x4x64, .f32⟩
  | 98 => ⟨S64x4x64, .f32⟩
  | 99 => ⟨S64x4x64, .f32⟩
  | 100 => ⟨S64x4x64, .f32⟩
  | 101 => ⟨S64x4x64, .f32⟩
  | 102 => ⟨S64x4x64, .f32⟩
  | 103 => ⟨S64x4x64, .f32⟩
  | 104 => ⟨S64x4x64, .f32⟩
  | 105 => ⟨S64x4x64, .f32⟩
  | 106 => ⟨S64x4x64, .f32⟩
  | 107 => ⟨S64x4x64, .f32⟩
  | 108 => ⟨S_, .i32⟩
  | 109 => ⟨S_, .i32⟩
  | 110 => ⟨S64x4x128x64, .f32⟩
  | 111 => ⟨S64x512x64, .f32⟩
  | 112 => ⟨S64x4x128x64, .f32⟩
  | 113 => ⟨S64x512x64, .f32⟩
  | 114 => ⟨S64x512x128, .f32⟩
  | 115 => ⟨S_, .i32⟩
  | 116 => ⟨S_, .f32⟩
  | 117 => ⟨S64x544x128, .f32⟩
  | 118 => ⟨S64x544x256, .f32⟩
  | 119 => ⟨S64x256x256, .f32⟩
  | 120 => ⟨S64x544x256, .f32⟩
  | 121 => ⟨S64x256x128, .f32⟩
  | 122 => ⟨S64x544x256, .f32⟩
  | 123 => ⟨S64x544x256, .f32⟩
  | 124 => ⟨S128x1024, .f32⟩
  | 125 => ⟨S128x8x128, .f32⟩
  | 126 => ⟨S64x128x128, .f32⟩
  | 127 => ⟨S8x8x128x128, .f32⟩
  | _ => ⟨S64x544x256, .bf16⟩

abbrev hbmTy0_1 (i : Nat) : BufTy := match i % 128 with
  | 0 => ⟨S64x128x128, .f32⟩
  | 1 => ⟨S8x8x128x128, .f32⟩
  | 2 => ⟨S8x8x128x128, .f32⟩
  | 3 => ⟨S128x8x8x128, .f32⟩
  | 4 => ⟨S128x64x128, .f32⟩
  | 5 => ⟨S128x64x64, .f32⟩
  | 6 => ⟨S128x64x64, .f32⟩
  | 7 => ⟨S128x64x64, .f32⟩
  | 8 => ⟨S128x64x64, .f32⟩
  | 9 => ⟨S1x64x64, .f32⟩
  | 10 => ⟨S128x64x64, .f32⟩
  | 11 => ⟨S128x64x64, .f32⟩
  | 12 => ⟨S1x64x64, .f32⟩
  | 13 => ⟨S128x64x64, .f32⟩
  | 14 => ⟨S128x64x64, .f32⟩
  | 15 => ⟨S128x64x64, .f32⟩
  | 16 => ⟨S128x64x64, .f32⟩
  | 17 => ⟨S1x64x64, .f32⟩
  | 18 => ⟨S128x64x64, .f32⟩
  | 19 => ⟨S128x64x64, .f32⟩
  | 20 => ⟨S1x64x64, .f32⟩
  | 21 => ⟨S128x64x64, .f32⟩
  | 22 => ⟨S128x64x64, .f32⟩
  | 23 => ⟨S128x64x64, .f32⟩
  | 24 => ⟨S128x64x64, .f32⟩
  | 25 => ⟨S128x64x128, .f32⟩
  | 26 => ⟨S128x8x8x128, .f32⟩
  | 27 => ⟨S8x128x128, .f32⟩
  | 28 => ⟨S128x8x128, .f32⟩
  | 29 => ⟨S128x1024, .f32⟩
  | 30 => ⟨S64x4x128, .f32⟩
  | 31 => ⟨S128x4096, .f32⟩
  | 32 => ⟨S128x4096, .f32⟩
  | _ => ⟨S64x544x256, .bf16⟩

abbrev hbmTy (i : Nat) : BufTy := match i / 128 with
  | 0 => hbmTy0_0 i
  | 1 => hbmTy0_1 i
  | _ => ⟨S64x544x256, .bf16⟩

abbrev bufTy : (tb : Table) → Fin (tcTables nBuf tb) → BufTy
  | .hbm, ⟨i, _⟩ => hbmTy i
  | _, _ => ⟨S64x544x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c : Ref sig .tc := ⟨.hbm, 34, rfl⟩
abbrev main_c_0 : Ref sig .tc := ⟨.hbm, 35, rfl⟩
abbrev main_v20_0 : Ref sig .tc := ⟨.hbm, 36, rfl⟩
abbrev main_v20_1 : Ref sig .tc := ⟨.hbm, 37, rfl⟩
abbrev main_v20_2 : Ref sig .tc := ⟨.hbm, 38, rfl⟩
abbrev main_v20_3 : Ref sig .tc := ⟨.hbm, 39, rfl⟩
abbrev main_v20_4 : Ref sig .tc := ⟨.hbm, 40, rfl⟩
abbrev main_v20_5 : Ref sig .tc := ⟨.hbm, 41, rfl⟩
abbrev main_v20_6 : Ref sig .tc := ⟨.hbm, 42, rfl⟩
abbrev main_v20_7 : Ref sig .tc := ⟨.hbm, 43, rfl⟩
abbrev main_v20_8 : Ref sig .tc := ⟨.hbm, 44, rfl⟩
abbrev main_v20_9 : Ref sig .tc := ⟨.hbm, 45, rfl⟩
abbrev main_while0c_c_11 : Ref sig .tc := ⟨.hbm, 46, rfl⟩
abbrev main_while0c_v70 : Ref sig .tc := ⟨.hbm, 47, rfl⟩
abbrev main_while0b_c_11 : Ref sig .tc := ⟨.hbm, 48, rfl⟩
abbrev main_while0b_v70 : Ref sig .tc := ⟨.hbm, 49, rfl⟩
abbrev main_while0b_v71 : Ref sig .tc := ⟨.hbm, 50, rfl⟩
abbrev main_while0b_c_12 : Ref sig .tc := ⟨.hbm, 51, rfl⟩
abbrev main_while0b_v72 : Ref sig .tc := ⟨.hbm, 52, rfl⟩
abbrev main_while0b_v73 : Ref sig .tc := ⟨.hbm, 53, rfl⟩
abbrev main_while0b_c_13 : Ref sig .tc := ⟨.hbm, 54, rfl⟩
abbrev main_while0b_v74 : Ref sig .tc := ⟨.hbm, 55, rfl⟩
abbrev main_while0b_v75 : Ref sig .tc := ⟨.hbm, 56, rfl⟩
abbrev main_while0b_c_14 : Ref sig .tc := ⟨.hbm, 57, rfl⟩
abbrev main_while0b_c_15 : Ref sig .tc := ⟨.hbm, 58, rfl⟩
abbrev main_while0b_c_16 : Ref sig .tc := ⟨.hbm, 59, rfl⟩
abbrev main_while0b_v76 : Ref sig .tc := ⟨.hbm, 60, rfl⟩
abbrev main_while0b_v77 : Ref sig .tc := ⟨.hbm, 61, rfl⟩
abbrev main_while0b_c_17 : Ref sig .tc := ⟨.hbm, 62, rfl⟩
abbrev main_while0b_v78 : Ref sig .tc := ⟨.hbm, 63, rfl⟩
abbrev main_while0b_v79 : Ref sig .tc := ⟨.hbm, 64, rfl⟩
abbrev main_while0b_c_18 : Ref sig .tc := ⟨.hbm, 65, rfl⟩
abbrev main_while0b_v80 : Ref sig .tc := ⟨.hbm, 66, rfl⟩
abbrev main_while0b_v81 : Ref sig .tc := ⟨.hbm, 67, rfl⟩
abbrev main_while0b_c_19 : Ref sig .tc := ⟨.hbm, 68, rfl⟩
abbrev main_while0b_c_20 : Ref sig .tc := ⟨.hbm, 69, rfl⟩
abbrev main_while0b_c_21 : Ref sig .tc := ⟨.hbm, 70, rfl⟩
abbrev main_while0b_v82 : Ref sig .tc := ⟨.hbm, 71, rfl⟩
abbrev main_while0b_v83 : Ref sig .tc := ⟨.hbm, 72, rfl⟩
abbrev main_while0b_v84 : Ref sig .tc := ⟨.hbm, 73, rfl⟩
abbrev main_while0b_c_22 : Ref sig .tc := ⟨.hbm, 74, rfl⟩
abbrev main_while0b_v85 : Ref sig .tc := ⟨.hbm, 75, rfl⟩
abbrev main_while0b_v86 : Ref sig .tc := ⟨.hbm, 76, rfl⟩
abbrev main_while0b_c_23 : Ref sig .tc := ⟨.hbm, 77, rfl⟩
abbrev main_while0b_v87 : Ref sig .tc := ⟨.hbm, 78, rfl⟩
abbrev main_while0b_v88 : Ref sig .tc := ⟨.hbm, 79, rfl⟩
abbrev main_while0b_c_24 : Ref sig .tc := ⟨.hbm, 80, rfl⟩
abbrev main_while0b_c_25 : Ref sig .tc := ⟨.hbm, 81, rfl⟩
abbrev main_while0b_c_26 : Ref sig .tc := ⟨.hbm, 82, rfl⟩
abbrev main_while0b_v89 : Ref sig .tc := ⟨.hbm, 83, rfl⟩
abbrev main_while0b_v90 : Ref sig .tc := ⟨.hbm, 84, rfl⟩
abbrev main_while0b_c_27 : Ref sig .tc := ⟨.hbm, 85, rfl⟩
abbrev main_while0b_v91 : Ref sig .tc := ⟨.hbm, 86, rfl⟩
abbrev main_while0b_v92 : Ref sig .tc := ⟨.hbm, 87, rfl⟩
abbrev main_while0b_c_28 : Ref sig .tc := ⟨.hbm, 88, rfl⟩
abbrev main_while0b_v93 : Ref sig .tc := ⟨.hbm, 89, rfl⟩
abbrev main_while0b_v94 : Ref sig .tc := ⟨.hbm, 90, rfl⟩
abbrev main_while0b_c_29 : Ref sig .tc := ⟨.hbm, 91, rfl⟩
abbrev main_while0b_c_30 : Ref sig .tc := ⟨.hbm, 92, rfl⟩
abbrev main_while0b_c_31 : Ref sig .tc := ⟨.hbm, 93, rfl⟩
abbrev main_while0b_v95 : Ref sig .tc := ⟨.hbm, 94, rfl⟩
abbrev main_while0b_v96 : Ref sig .tc := ⟨.hbm, 95, rfl⟩
abbrev main_while0b_v97 : Ref sig .tc := ⟨.hbm, 96, rfl⟩
abbrev main_while0b_v98 : Ref sig .tc := ⟨.hbm, 97, rfl⟩
abbrev main_while0b_v99 : Ref sig .tc := ⟨.hbm, 98, rfl⟩
abbrev main_while0b_v100 : Ref sig .tc := ⟨.hbm, 99, rfl⟩
abbrev main_while0b_v101 : Ref sig .tc := ⟨.hbm, 100, rfl⟩
abbrev main_while0b_v102 : Ref sig .tc := ⟨.hbm, 101, rfl⟩
abbrev main_while0b_v103 : Ref sig .tc := ⟨.hbm, 102, rfl⟩
abbrev main_while0b_v104 : Ref sig .tc := ⟨.hbm, 103, rfl⟩
abbrev main_while0b_v105 : Ref sig .tc := ⟨.hbm, 104, rfl⟩
abbrev main_while0b_v106 : Ref sig .tc := ⟨.hbm, 105, rfl⟩
abbrev main_while0b_v107 : Ref sig .tc := ⟨.hbm, 106, rfl⟩
abbrev main_while0b_v108 : Ref sig .tc := ⟨.hbm, 107, rfl⟩
abbrev main_while0b_c_32 : Ref sig .tc := ⟨.hbm, 108, rfl⟩
abbrev main_while0b_v109 : Ref sig .tc := ⟨.hbm, 109, rfl⟩
abbrev main_v21 : Ref sig .tc := ⟨.hbm, 110, rfl⟩
abbrev main_v22 : Ref sig .tc := ⟨.hbm, 111, rfl⟩
abbrev main_v23 : Ref sig .tc := ⟨.hbm, 112, rfl⟩
abbrev main_v24 : Ref sig .tc := ⟨.hbm, 113, rfl⟩
abbrev main_v25 : Ref sig .tc := ⟨.hbm, 114, rfl⟩
abbrev main_c_1 : Ref sig .tc := ⟨.hbm, 115, rfl⟩
abbrev main_call0_v0 : Ref sig .tc := ⟨.hbm, 116, rfl⟩
abbrev main_v26 : Ref sig .tc := ⟨.hbm, 117, rfl⟩
abbrev main_v27 : Ref sig .tc := ⟨.hbm, 118, rfl⟩
abbrev main_v28 : Ref sig .tc := ⟨.hbm, 119, rfl⟩
abbrev main_v29 : Ref sig .tc := ⟨.hbm, 120, rfl⟩
abbrev main_v30 : Ref sig .tc := ⟨.hbm, 121, rfl⟩
abbrev main_v31 : Ref sig .tc := ⟨.hbm, 122, rfl⟩
abbrev main_v32 : Ref sig .tc := ⟨.hbm, 123, rfl⟩
abbrev main_v33 : Ref sig .tc := ⟨.hbm, 124, rfl⟩
abbrev main_v34 : Ref sig .tc := ⟨.hbm, 125, rfl⟩
abbrev main_v35 : Ref sig .tc := ⟨.hbm, 126, rfl⟩
abbrev main_v36 : Ref sig .tc := ⟨.hbm, 127, rfl⟩
abbrev main_v37 : Ref sig .tc := ⟨.hbm, 128, rfl⟩
abbrev main_v38 : Ref sig .tc := ⟨.hbm, 129, rfl⟩
abbrev main_v39 : Ref sig .tc := ⟨.hbm, 130, rfl⟩
abbrev main_v40 : Ref sig .tc := ⟨.hbm, 131, rfl⟩
abbrev main_v41 : Ref sig .tc := ⟨.hbm, 132, rfl⟩
abbrev main_v42 : Ref sig .tc := ⟨.hbm, 133, rfl⟩
abbrev main_v43 : Ref sig .tc := ⟨.hbm, 134, rfl⟩
abbrev main_v44 : Ref sig .tc := ⟨.hbm, 135, rfl⟩
abbrev main_v45 : Ref sig .tc := ⟨.hbm, 136, rfl⟩
abbrev main_v46 : Ref sig .tc := ⟨.hbm, 137, rfl⟩
abbrev main_v47 : Ref sig .tc := ⟨.hbm, 138, rfl⟩
abbrev main_v48 : Ref sig .tc := ⟨.hbm, 139, rfl⟩
abbrev main_v49 : Ref sig .tc := ⟨.hbm, 140, rfl⟩
abbrev main_v50 : Ref sig .tc := ⟨.hbm, 141, rfl⟩
abbrev main_v51 : Ref sig .tc := ⟨.hbm, 142, rfl⟩
abbrev main_v52 : Ref sig .tc := ⟨.hbm, 143, rfl⟩
abbrev main_v53 : Ref sig .tc := ⟨.hbm, 144, rfl⟩
abbrev main_v54 : Ref sig .tc := ⟨.hbm, 145, rfl⟩
abbrev main_v55 : Ref sig .tc := ⟨.hbm, 146, rfl⟩
abbrev main_v56 : Ref sig .tc := ⟨.hbm, 147, rfl⟩
abbrev main_v57 : Ref sig .tc := ⟨.hbm, 148, rfl⟩
abbrev main_v58 : Ref sig .tc := ⟨.hbm, 149, rfl⟩
abbrev main_v59 : Ref sig .tc := ⟨.hbm, 150, rfl⟩
abbrev main_v60 : Ref sig .tc := ⟨.hbm, 151, rfl⟩
abbrev main_v61 : Ref sig .tc := ⟨.hbm, 152, rfl⟩
abbrev main_v62 : Ref sig .tc := ⟨.hbm, 153, rfl⟩
abbrev main_v63 : Ref sig .tc := ⟨.hbm, 154, rfl⟩
abbrev main_v64 : Ref sig .tc := ⟨.hbm, 155, rfl⟩
abbrev main_v65 : Ref sig .tc := ⟨.hbm, 156, rfl⟩
abbrev main_v66 : Ref sig .tc := ⟨.hbm, 157, rfl⟩
abbrev main_v67 : Ref sig .tc := ⟨.hbm, 158, rfl⟩
abbrev main_v68 : Ref sig .tc := ⟨.hbm, 159, rfl⟩
abbrev main_v69 : Ref sig .tc := ⟨.hbm, 160, rfl⟩

abbrev nD : Nat := 1
abbrev τ : Topo := Topo.v7x

variable {F : FTy → Type} [FloatOps F]

abbrev main_while0_count : Scf.Loop 32 := ⟨0#32, 128#32, 1#32⟩
-- ==== Up.lean ====
abbrev S8704x2048 : Shape := ⟨2, ![8704, 2048]⟩
abbrev S2048x5632 : Shape := ⟨2, ![2048, 5632]⟩
abbrev S5632x2048 : Shape := ⟨2, ![5632, 2048]⟩
abbrev S8704x5632 : Shape := ⟨2, ![8704, 5632]⟩
abbrev S4352x2048 : Shape := ⟨2, ![4352, 2048]⟩
abbrev S2048x256 : Shape := ⟨2, ![2048, 256]⟩
abbrev S256x2048 : Shape := ⟨2, ![256, 2048]⟩
abbrev S4352x256 : Shape := ⟨2, ![4352, 256]⟩
abbrev S1088x2048 : Shape := ⟨2, ![1088, 2048]⟩
abbrev S1088x256 : Shape := ⟨2, ![1088, 256]⟩
abbrev S832x2048 : Shape := ⟨2, ![832, 2048]⟩
abbrev S832x256 : Shape := ⟨2, ![832, 256]⟩
abbrev S256x256 : Shape := ⟨2, ![256, 256]⟩

abbrev nBuf : Space → Nat
  | .hbm => 7
  | .vmem => 11
  | .smem => 0
  | _ => 0

abbrev bufTy : (tb : Table) → Fin (tcTables nBuf tb) → BufTy
  | .hbm, ⟨0, _⟩ => ⟨S8704x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S8704x2048, .bf16⟩
  | .hbm, ⟨5, _⟩ => ⟨S8704x5632, .bf16⟩
  | .hbm, ⟨6, _⟩ => ⟨S5632x2048, .bf16⟩
  | .local _ .vmem, ⟨0, _⟩ => ⟨S4352x2048, .bf16⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S256x2048, .f32⟩
  | .local _ .vmem, ⟨6, _⟩ => ⟨S256x2048, .f32⟩
  | .local _ .vmem, ⟨7, _⟩ => ⟨S4352x256, .bf16⟩
  | .local _ .vmem, ⟨8, _⟩ => ⟨S4352x256, .bf16⟩
  | .local _ .vmem, ⟨9, _⟩ => ⟨S256x2048, .bf16⟩
  | .local _ .vmem, ⟨10, _⟩ => ⟨S256x2048, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 22], ![false, false]⟩

def k0_cond2 (i : grid0.Coords) : BitVec 1 :=
  let arg0 : BitVec 32 := BitVec.ofNat 32 (i 0).val
  let c0_i32_4 : BitVec 32 := 0#32
  let v7 : BitVec 1 := Scalar.cmpi .eq arg0 c0_i32_4
  let v8 : BitVec 32 := Scalar.extui v7
  let c0_i32_5 : BitVec 32 := 0#32
  let v9 : BitVec 1 := Scalar.cmpi .ne v8 c0_i32_5
  v9

def k0_cond3 (i : grid0.Coords) : BitVec 1 :=
  let arg0 : BitVec 32 := BitVec.ofNat 32 (i 0).val
  let c1_i32 : BitVec 32 := 1#32
  let v10 : BitVec 1 := Scalar.cmpi .eq arg0 c1_i32
  let v11 : BitVec 32 := Scalar.extui v10
  let c0_i32_6 : BitVec 32 := 0#32
  let v12 : BitVec 1 := Scalar.cmpi .ne v11 c0_i32_6
  v12

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c21_i32 : BitVec 32 := 21#32
  let v1 : BitVec 32 := Scalar.select v0 arg1 c21_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c21_i32 : BitVec 32 := 21#32
  let v1 : BitVec 32 := Scalar.select v0 arg1 c21_i32
  let c0_i32_0 : BitVec 32 := 0#32
  let c0_i32_1 : BitVec 32 := 0#32
  ![v1.toNat, c0_i32_0.toNat]

abbrev stage0_0 : Fin 1 → Memref sig .tc .vmem S4352x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4352x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== UpIdeal.lean ====
variable {F : FTy → Type} [FloatOps F] [Named F]
def κ : String → Option EReal := fun
  | "neg_log2_e" => some ((-((Real.log 2)⁻¹) : ℝ) : EReal)
  | _ => none
-- ==== UpRefIdeal.lean ====
abbrev S8704x2048 : Shape := ⟨2, ![8704, 2048]⟩
abbrev S2048x5632 : Shape := ⟨2, ![2048, 5632]⟩
abbrev S5632x2048 : Shape := ⟨2, ![5632, 2048]⟩
abbrev S8704x5632 : Shape := ⟨2, ![8704, 5632]⟩
abbrev S_ : Shape := ⟨0, ![]⟩
abbrev S8448x5632 : Shape := ⟨2, ![8448, 5632]⟩

abbrev nBuf : Space → Nat
  | .hbm => 22
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S8704x5632, .f32⟩
  | .hbm, ⟨5, _⟩ => ⟨S8704x5632, .f32⟩
  | .hbm, ⟨6, _⟩ => ⟨S8704x5632, .f32⟩
  | .hbm, ⟨7, _⟩ => ⟨S_, .f32⟩
  | .hbm, ⟨8, _⟩ => ⟨S8704x5632, .f32⟩
  | .hbm, ⟨9, _⟩ => ⟨S8704x5632, .f32⟩
  | .hbm, ⟨10, _⟩ => ⟨S_, .f32⟩
  | .hbm, ⟨11, _⟩ => ⟨S8704x5632, .f32⟩
  | .hbm, ⟨12, _⟩ => ⟨S8704x5632, .f32⟩
  | .hbm, ⟨13, _⟩ => ⟨S8704x5632, .f32⟩
  | .hbm, ⟨14, _⟩ => ⟨S8704x5632, .f32⟩
  | .hbm, ⟨15, _⟩ => ⟨S8704x5632, .f32⟩
  | .hbm, ⟨16, _⟩ => ⟨S8448x5632, .f32⟩
  | .hbm, ⟨17, _⟩ => ⟨S_, .i32⟩
  | .hbm, ⟨18, _⟩ => ⟨S_, .f32⟩
  | .hbm, ⟨19, _⟩ => ⟨S8704x5632, .f32⟩
  | .hbm, ⟨20, _⟩ => ⟨S8704x5632, .bf16⟩
  | .hbm, ⟨21, _⟩ => ⟨S5632x2048, .bf16⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_call1_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩

abbrev nD : Nat := 1
abbrev τ : Topo := Topo.v7x

variable {F : FTy → Type} [FloatOps F]
-- ==== Down.lean ====
abbrev S8704x5632 : Shape := ⟨2, ![8704, 5632]⟩
abbrev S8704x2048 : Shape := ⟨2, ![8704, 2048]⟩
abbrev S5632x2048 : Shape := ⟨2, ![5632, 2048]⟩
abbrev S1x2048 : Shape := ⟨2, ![1, 2048]⟩
abbrev S8192x2048 : Shape := ⟨2, ![8192, 2048]⟩
abbrev S256x2048 : Shape := ⟨2, ![256, 2048]⟩
abbrev S512x5632 : Shape := ⟨2, ![512, 5632]⟩
abbrev S512x2048 : Shape := ⟨2, ![512, 2048]⟩
abbrev S256x5632 : Shape := ⟨2, ![256, 5632]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S8704x5632, .bf16⟩
  | .hbm, ⟨1, _⟩ => ⟨S8704x2048, .f32⟩
  | .hbm, ⟨2, _⟩ => ⟨S5632x2048, .bf16⟩
  | .hbm, ⟨3, _⟩ => ⟨S1x2048, .f32⟩
  | .hbm, ⟨4, _⟩ => ⟨S1x2048, .f32⟩
  | .hbm, ⟨5, _⟩ => ⟨S8192x2048, .f32⟩
  | .hbm, ⟨6, _⟩ => ⟨S256x2048, .f32⟩
  | .local _ .vmem, ⟨0, _⟩ => ⟨S512x5632, .bf16⟩
  | .local _ .vmem, ⟨1, _⟩ => ⟨S512x5632, .bf16⟩
  | .local _ .vmem, ⟨2, _⟩ => ⟨S512x2048, .f32⟩
  | .local _ .vmem, ⟨3, _⟩ => ⟨S512x2048, .f32⟩
  | .local _ .vmem, ⟨4, _⟩ => ⟨S5632x2048, .bf16⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S256x2048, .f32⟩
  | _, _ => ⟨S8704x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c16_i32_0 : BitVec 32 := 16#32
  let v3 : BitVec 1 := Scalar.cmpi .eq arg0 c16_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5632x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DownRefIdeal.lean ====
abbrev S8704x5632 : Shape := ⟨2, ![8704, 5632]⟩
abbrev S8704x2048 : Shape := ⟨2, ![8704, 2048]⟩
abbrev S5632x2048 : Shape := ⟨2, ![5632, 2048]⟩
abbrev S1x2048 : Shape := ⟨2, ![1, 2048]⟩
abbrev S_ : Shape := ⟨0, ![]⟩
abbrev S8704 : Shape := ⟨1, ![8704]⟩
abbrev S8704x1 : Shape := ⟨2, ![8704, 1]⟩
abbrev S8192x2048 : Shape := ⟨2, ![8192, 2048]⟩
abbrev S256x2048 : Shape := ⟨2, ![256, 2048]⟩

abbrev nBuf : Space → Nat
  | .hbm => 41
  | .vmem => 0
  | .smem => 0
  | _ => 0

abbrev bufTy : (tb : Table) → Fin (tcTables nBuf tb) → BufTy
  | .hbm, ⟨0, _⟩ => ⟨S8704x5632, .bf16⟩
  | .hbm, ⟨1, _⟩ => ⟨S8704x2048, .f32⟩
  | .hbm, ⟨2, _⟩ => ⟨S5632x2048, .bf16⟩
  | .hbm, ⟨3, _⟩ => ⟨S1x2048, .f32⟩
  | .hbm, ⟨4, _⟩ => ⟨S1x2048, .f32⟩
  | .hbm, ⟨5, _⟩ => ⟨S8704x5632, .f32⟩
  | .hbm, ⟨6, _⟩ => ⟨S5632x2048, .f32⟩
  | .hbm, ⟨7, _⟩ => ⟨S8704x2048, .f32⟩
  | .hbm, ⟨8, _⟩ => ⟨S_, .f32⟩
  | .hbm, ⟨9, _⟩ => ⟨S8704x2048, .f32⟩
  | .hbm, ⟨10, _⟩ => ⟨S8704x2048, .f32⟩
  | .hbm, ⟨11, _⟩ => ⟨S8704x2048, .f32⟩
  | .hbm, ⟨12, _⟩ => ⟨S_, .f32⟩
  | .hbm, ⟨13, _⟩ => ⟨S8704, .f32⟩
  | .hbm, ⟨14, _⟩ => ⟨S8704x1, .f32⟩
  | .hbm, ⟨15, _⟩ => ⟨S_, .f32⟩
  | .hbm, ⟨16, _⟩ => ⟨S8704x1, .f32⟩
  | .hbm, ⟨17, _⟩ => ⟨S8704x1, .f32⟩
  | .hbm, ⟨18, _⟩ => ⟨S8704x2048, .f32⟩
  | .hbm, ⟨19, _⟩ => ⟨S8704x2048, .f32⟩
  | .hbm, ⟨20, _⟩ => ⟨S8704x2048, .f32⟩
  | .hbm, ⟨21, _⟩ => ⟨S_, .f32⟩
  | .hbm, ⟨22, _⟩ => ⟨S8704, .f32⟩
  | .hbm, ⟨23, _⟩ => ⟨S8704x1, .f32⟩
  | .hbm, ⟨24, _⟩ => ⟨S_, .f32⟩
  | .hbm, ⟨25, _⟩ => ⟨S8704x1, .f32⟩
  | .hbm, ⟨26, _⟩ => ⟨S8704x1, .f32⟩
  | .hbm, ⟨27, _⟩ => ⟨S8704x2048, .f32⟩
  | .hbm, ⟨28, _⟩ => ⟨S8704x2048, .f32⟩
  | .hbm, ⟨29, _⟩ => ⟨S_, .f32⟩
  | .hbm, ⟨30, _⟩ => ⟨S8704x1, .f32⟩
  | .hbm, ⟨31, _⟩ => ⟨S8704x1, .f32⟩
  | .hbm, ⟨32, _⟩ => ⟨S8704x1, .f32⟩
  | .hbm, ⟨33, _⟩ => ⟨S8704x2048, .f32⟩
  | .hbm, ⟨34, _⟩ => ⟨S8704x2048, .f32⟩
  | .hbm, ⟨35, _⟩ => ⟨S8704x2048, .f32⟩
  | .hbm, ⟨36, _⟩ => ⟨S8704x2048, .f32⟩
  | .hbm, ⟨37, _⟩ => ⟨S8704x2048, .f32⟩
  | .hbm, ⟨38, _⟩ => ⟨S8704x2048, .f32⟩
  | .hbm, ⟨39, _⟩ => ⟨S8192x2048, .f32⟩
  | .hbm, ⟨40, _⟩ => ⟨S256x2048, .f32⟩
  | _, _ => ⟨S8704x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Proof.ScanLoop.lean ====
/- The recurrence over the chunks: one trip of the loop for the eight groups of a grid point, and its invariant. -/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Claim
public import Idealize.ShloMosaic.Lib.Pipeline.ReadBack
public import Idealize.ShloMosaic.Lib.Pipeline.ValueKit

@[expose] public section

set_option maxRecDepth 16384

noncomputable section

namespace Cert.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The states of the four sequences in one group, and the same with their halves exchanged. -/
abbrev Pair (F : FTy → Type) := FVec F S4x128 .f32 × FVec F S4x128 .f32

/-- Where a group's rows for chunk `k` begin in a scratch buffer. -/
def rowOff : Fin 8 → Fin k0_t1_loop.trips → Fin 3 → Nat
  | 0, k => k0_off1 k
  | 1, k => k0_off2 k
  | 2, k => k0_off3 k
  | 3, k => k0_off4 k
  | 4, k => k0_off5 k
  | 5, k => k0_off6 k
  | 6, k => k0_off7 k
  | 7, k => k0_off8 k

theorem rowOff_inb : ∀ g k, ∀ a, S1x4x128.size a = 0 ∨ rowOff g k a + ![1, 136, 1] a * (S1x4x128.size a - 1) < S8x552x128.size a
  | 0, k => k0_off1_inb k
  | 1, k => k0_off2_inb k
  | 2, k => k0_off3_inb k
  | 3, k => k0_off4_inb k
  | 4, k => k0_off5_inb k
  | 5, k => k0_off6_inb k
  | 6, k => k0_off7_inb k
  | 7, k => k0_off8_inb k

/-- The four rows, one per sequence, that a group has for chunk `k` in a scratch buffer. -/
def rowAt (g : Fin 8) (k : Fin k0_t1_loop.trips) : Rect S8x552x128 := ⟨⟨rowOff g k, S1x4x128.size, ![1, 136, 1], rowOff_inb g k⟩, spos_1_136_1⟩

/-- One chunk's step: the states, and the states with their halves exchanged. -/
def stepPair (a x : FVec F S1x128 .f32) (p : Pair F) (r r' : Vec F S1x4x128 .f32) : Pair F :=
  (k0_pay2 a x p.1 p.2 r, k0_pay3 a x p.1 p.2 r')

/-- The states of the eight groups before chunk `k`. -/
def states (r r' : Fin 8 → Fin k0_t1_loop.trips → Vec F S1x4x128 .f32) (a x : Fin 8 → FVec F S1x128 .f32) (p : Fin 8 → Pair F) : ℕ → Fin 8 → Pair F
  | 0 => p
  | k + 1 => fun g => if h : k < k0_t1_loop.trips then stepPair (a g) (x g) (states r r' a x p k g) (r g ⟨k, h⟩) (r' g ⟨k, h⟩) else states r r' a x p k g

/-- What the loop carries, as one pair per group. -/
abbrev Carry (F : FTy → Type) := FVec F S4x128 .f32 × FVec F S4x128 .f32 × FVec F S4x128 .f32 × FVec F S4x128 .f32 × FVec F S4x128 .f32 × FVec F S4x128 .f32 × FVec F S4x128 .f32 × FVec F S4x128 .f32 × FVec F S4x128 .f32 × FVec F S4x128 .f32 × FVec F S4x128 .f32 × FVec F S4x128 .f32 × FVec F S4x128 .f32 × FVec F S4x128 .f32 × FVec F S4x128 .f32 × FVec F S4x128 .f32

def pairs (z : Carry F) : Fin 8 → Pair F
  | 0 => (z.1, z.2.1)
  | 1 => (z.2.2.1, z.2.2.2.1)
  | 2 => (z.2.2.2.2.1, z.2.2.2.2.2.1)
  | 3 => (z.2.2.2.2.2.2.1, z.2.2.2.2.2.2.2.1)
  | 4 => (z.2.2.2.2.2.2.2.2.1, z.2.2.2.2.2.2.2.2.2.1)
  | 5 => (z.2.2.2.2.2.2.2.2.2.2.1, z.2.2.2.2.2.2.2.2.2.2.2.1)
  | 6 => (z.2.2.2.2.2.2.2.2.2.2.2.2.1, z.2.2.2.2.2.2.2.2.2.2.2.2.2.1)
  | 7 => (z.2.2.2.2.2.2.2.2.2.2.2.2.2.2.1, z.2.2.2.2.2.2.2.2.2.2.2.2.2.2.2)

def carry (p : Fin 8 → Pair F) : Carry F := ((p 0).1, (p 0).2, (p 1).1, (p 1).2, (p 2).1, (p 2).2, (p 3).1, (p 3).2, (p 4).1, (p 4).2, (p 5).1, (p 5).2, (p 6).1, (p 6).2, (p 7).1, (p 7).2)

/-- The rows stored at chunk `k`. -/
def stored (s : Fin 8 → Pair F) (k : Fin k0_t1_loop.trips) : List (View.Piece (Elt F) S8x552x128 .f32) :=
  [⟨rowAt 7 k, k0_pay1 (s 7).1⟩,
    ⟨rowAt 6 k, k0_pay1 (s 6).1⟩,
    ⟨rowAt 5 k, k0_pay1 (s 5).1⟩,
    ⟨rowAt 4 k, k0_pay1 (s 4).1⟩,
    ⟨rowAt 3 k, k0_pay1 (s 3).1⟩,
    ⟨rowAt 2 k, k0_pay1 (s 2).1⟩,
    ⟨rowAt 1 k, k0_pay1 (s 1).1⟩,
    ⟨rowAt 0 k, k0_pay1 (s 0).1⟩]

section Trip

variable (c : Dev nD) (i : grid0.Coords) (arg1 : Memref sig .tc .vmem S8x544x256 .bf16) (harg1 : arg1.IsWhole) (arg2 : Memref sig .tc .vmem S256x128 .f32) (harg2 : arg2.IsWhole) (arg3 : Memref sig .tc .vmem S8x256x256 .bf16) (harg3 : arg3.IsWhole) (arg4 : Memref sig .tc .vmem S8x256x128 .bf16) (harg4 : arg4.IsWhole) (arg5 : Memref sig .tc .vmem S8x256x128 .bf16) (harg5 : arg5.IsWhole) (arg6 : Memref sig .tc .vmem S8x128x128 .bf16) (harg6 : arg6.IsWhole) (arg7 : Memref sig .tc .vmem S8x128x128 .bf16) (harg7 : arg7.IsWhole) (arg8 : Memref sig .tc .vmem S8x4x128 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S8x544x256 .f32) (harg11 : arg11.IsWhole) (arg12 : Memref sig .tc .vmem S128x128 .f32) (harg12 : arg12.IsWhole) (arg13 : Memref sig .tc .vmem S8x4x128 .f32) (harg13 : arg13.IsWhole) (arg14 : Memref sig .tc .vmem S128x512 .f32) (harg14 : arg14.IsWhole) (arg15 : Memref sig .tc .vmem S128x512 .f32) (harg15 : arg15.IsWhole) (arg16 : Memref sig .tc .vmem S8x552x128 .f32) (harg16 : arg16.IsWhole) (arg17 : Memref sig .tc .vmem S8x552x128 .f32) (harg17 : arg17.IsWhole) (arg18 : Memref sig .tc .vmem S8x552x128 .f32) (harg18 : arg18.IsWhole)
  (v369 : FVec F S1x128 .f32) (v371 : FVec F S1x128 .f32) (v373 : FVec F S1x128 .f32) (v375 : FVec F S1x128 .f32) (v377 : FVec F S1x128 .f32) (v379 : FVec F S1x128 .f32) (v381 : FVec F S1x128 .f32) (v383 : FVec F S1x128 .f32) (v385 : FVec F S1x128 .f32) (v387 : FVec F S1x128 .f32) (v389 : FVec F S1x128 .f32) (v391 : FVec F S1x128 .f32) (v393 : FVec F S1x128 .f32) (v395 : FVec F S1x128 .f32) (v397 : FVec F S1x128 .f32) (v399 : FVec F S1x128 .f32) (v403 : FVec F S4x128 .f32) (v407 : FVec F S4x128 .f32) (v411 : FVec F S4x128 .f32) (v415 : FVec F S4x128 .f32) (v419 : FVec F S4x128 .f32) (v423 : FVec F S4x128 .f32) (v427 : FVec F S4x128 .f32) (v431 : FVec F S4x128 .f32) (v435 : FVec F S4x128 .f32) (v436 : Vec F S1x1x128 .f32)

/-- The rows read at chunk `k`. -/
def readRows {c : Dev nD} (b : Memref sig .tc .vmem S8x552x128 .f32) (f : Buf (Elt F) (b.view.loc (c : Thread nD τ))) (g : Fin 8) (k : Fin k0_t1_loop.trips) : Vec F S1x4x128 .f32 :=
  b.view.readAt (Elt F) (rowAt g k).toLoadRect f

/-- The third scratch buffer before chunk `k`: the states before each of the chunks that went before. -/
def history {c : Dev nD} (b : Memref sig .tc .vmem S8x552x128 .f32) (f : Buf (Elt F) (b.view.loc (c : Thread nD τ))) (s : ℕ → Fin 8 → Pair F) : ℕ → Buf (Elt F) (b.view.loc (c : Thread nD τ))
  | 0 => f
  | k + 1 => if h : k < k0_t1_loop.trips then b.view.writes (Elt F) (history b f s k) (stored (s k) ⟨k, h⟩) else history b f s k

variable (f16 : Buf (Elt F) (arg16.view.loc (c : Thread nD τ))) (f17 : Buf (Elt F) (arg17.view.loc (c : Thread nD τ))) (f18 : Buf (Elt F) (arg18.view.loc (c : Thread nD τ)))

abbrev loopStates (init : Carry F) : ℕ → Fin 8 → Pair F :=
  states (readRows arg16 f16) (readRows arg17 f17) ![v369, v371, v373, v375, v377, v379, v381, v383] ![v385, v387, v389, v391, v393, v395, v397, v399] (pairs init)

set_option maxHeartbeats 1000000 in
/-- One trip. -/
theorem trip (init : Carry F) (k : Fin k0_t1_loop.trips) :
    (iprop((arg16.view.loc (c : Thread nD τ) ↦[arg16.view.set]{fullShare} f16) ∗ (arg17.view.loc (c : Thread nD τ) ↦[arg17.view.set]{fullShare} f17)
        ∗ (arg18.view.loc (c : Thread nD τ) ↦[arg18.view.set]{fullShare} history arg18 f18 (loopStates c arg16 arg17 v369 v371 v373 v375 v377 v379 v381 v383 v385 v387 v389 v391 v393 v395 v397 v399 f16 f17 init) k.val)) : sProp 𝕄)
      ⊢ wp frame (wpE (defs₀ (F := F)) Variants.none (c : Thread nD τ) none) Set.univ
          (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v369 v371 v373 v375 v377 v379 v381 v383 v385 v387 v389 v391 v393 v395 v397 v399 v403 v407 v411 v415 v419 v423 v427 v431 v435 v436 k (carry (loopStates c arg16 arg17 v369 v371 v373 v375 v377 v379 v381 v383 v385 v387 v389 v391 v393 v395 v397 v399 f16 f17 init k.val)))
          (fun acc => iprop(⌜acc = carry (loopStates c arg16 arg17 v369 v371 v373 v375 v377 v379 v381 v383 v385 v387 v389 v391 v393 v395 v397 v399 f16 f17 init (k.val + 1))⌝
            ∗ (arg16.view.loc (c : Thread nD τ) ↦[arg16.view.set]{fullShare} f16) ∗ (arg17.view.loc (c : Thread nD τ) ↦[arg17.view.set]{fullShare} f17)
            ∗ (arg18.view.loc (c : Thread nD τ) ↦[arg18.view.set]{fullShare} history arg18 f18 (loopStates c arg16 arg17 v369 v371 v373 v375 v377 v379 v381 v383 v385 v387 v389 v391 v393 v395 v397 v399 f16 f17 init) (k.val + 1)))) := by
  rw [history, dif_pos k.isLt]
  have e : ∀ g, loopStates c arg16 arg17 v369 v371 v373 v375 v377 v379 v381 v383 v385 v387 v389 v391 v393 v395 v397 v399 f16 f17 init (k.val + 1) g = stepPair (![v369, v371, v373, v375, v377, v379, v381, v383] g) (![v385, v387, v389, v391, v393, v395, v397, v399] g) (loopStates c arg16 arg17 v369 v371 v373 v375 v377 v379 v381 v383 v385 v387 v389 v391 v393 v395 v397 v399 f16 f17 init k.val g) (readRows arg16 f16 g k) (readRows arg17 f17 g k) :=
    fun g => by show (if h : _ then _ else _) = _; rw [dif_pos k.isLt]
  generalize loopStates c arg16 arg17 v369 v371 v373 v375 v377 v379 v381 v383 v385 v387 v389 v391 v393 v395 v397 v399 f16 f17 init (k.val + 1) = q at *
  obtain rfl : q = _ := funext e
  generalize loopStates c arg16 arg17 v369 v371 v373 v375 v377 v379 v381 v383 v385 v387 v389 v391 v393 v395 v397 v399 f16 f17 init = p at *
  generalize history arg18 f18 p k.val = h
  unfold k0_t1_body carry
  simp only [k0_part1_eq_skeleton, k0_part2_eq_skeleton, k0_part3_eq_skeleton]
  iintro ⟨H16, H17, H18⟩
  sl_exec
  sl_step
  isplitr
  · ipureintro
    simp only [Prod.mk.injEq]
    refine ⟨?_, ?_, ?_, ?_, ?_, ?_, ?_, ?_, ?_, ?_, ?_, ?_, ?_, ?_, ?_, ?_⟩ <;> sl_unfold_words
    all_goals rfl
  isplitl [H16]; · iexact H16
  isplitl [H17]; · iexact H17
  iexact H18

set_option warn.classDefReducibility false in
def loopInv (init : Carry F) : LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
    v369 v371 v373 v375 v377 v379 v381 v383 v385 v387 v389 v391 v393 v395 v397 v399 v403 v407 v411 v415 v419 v423 v427 v431 v435 v436 init where
  inv k acc := iprop(⌜acc = carry (loopStates c arg16 arg17 v369 v371 v373 v375 v377 v379 v381 v383 v385 v387 v389 v391 v393 v395 v397 v399 f16 f17 init k)⌝
    ∗ (arg16.view.loc (c : Thread nD τ) ↦[arg16.view.set]{fullShare} f16) ∗ (arg17.view.loc (c : Thread nD τ) ↦[arg17.view.set]{fullShare} f17)
    ∗ (arg18.view.loc (c : Thread nD τ) ↦[arg18.view.set]{fullShare} history arg18 f18 (loopStates c arg16 arg17 v369 v371 v373 v375 v377 v379 v381 v383 v385 v387 v389 v391 v393 v395 v397 v399 f16 f17 init) k))
  step k acc := by
    iintro ⟨%e, H⟩
    subst e
    iapply (trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v369 v371 v373 v375 v377 v379 v381 v383 v385 v387 v389 v391 v393 v395 v397 v399 v403 v407 v411 v415 v419 v423 v427 v431 v435 v436 f16 f17 f18 init k)
    iexact H

end Trip

end Cert.Scan

end
-- ==== Proof.ScanRows.lean ====
/- The scratch buffers of the recurrence: what the rows of the projected chunks are, and what the states' history holds. -/
module

public import proofs.«01_k».proof.Proof.ScanLoop
public import proofs.«01_k».proof.Proof.Gen.KernelIdeal.Frame
public import proofs.«01_k».proof.Proof.Gen.KernelIdeal.Skeleton
public import proofs.«01_k».proof.Proof.Gen.KernelIdeal.Loops
public import Idealize.ShloMosaic.Lib.Claim
public import Idealize.ShloMosaic.Lib.Pipeline.ReadBack
public import Idealize.ShloMosaic.Lib.Pipeline.ValueKit
public import Idealize.ShloMosaic.Lib.ValueLayout

@[expose] public section

set_option maxRecDepth 16384

noncomputable section

namespace Cert.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! ## The projected chunks in the first two scratch buffers -/

/-- The chunk of a row of a scratch buffer: four blocks of 128 rows spaced 136 apart, and eight rows after them. -/
def chunkOf (r : ℕ) : ℕ := if r < 544 then 128 * (r / 136) + r % 136 else r - 32

theorem chunkOf_lt {r : ℕ} (h : r < 552) : chunkOf r < 544 := by unfold chunkOf; split <;> omega

theorem chunkOf_slab (n j : ℕ) (hn : n < 4) (hj : j < 128) : chunkOf (136 * n + j) = 128 * n + j := by
  unfold chunkOf; rw [if_pos (by omega)]; omega

theorem chunkOf_last (j : ℕ) : chunkOf (544 + j) = 512 + j := by
  unfold chunkOf; rw [if_neg (by omega)]; omega

/-- The scratch buffer that holds the rows of `X`. -/
def fill (X : Fin 8 → FVec F S544x128 .f32) : Vec F S8x552x128 .f32 :=
  fun y => X (y 0) (ix2 ⟨chunkOf (y 1).val, chunkOf_lt (y 1).isLt⟩ (y 2))

theorem slab_inb (g : Fin 8) (n : Fin 4) : ∀ a, (![g.val, 136 * n.val, 0] : Fin 3 → ℕ) a + S1x128x128.size a ≤ S8x552x128.size a := by
  intro a; have := g.isLt; have := n.isLt
  match a with
  | 0 => show g.val + 1 ≤ 8; omega
  | 1 => show 136 * n.val + 128 ≤ 552; omega
  | 2 => show 0 + 128 ≤ 128; omega

theorem last_inb (g : Fin 8) : ∀ a, (![g.val, 544, 0] : Fin 3 → ℕ) a + S1x8x128.size a ≤ S8x552x128.size a := by
  intro a; have := g.isLt
  match a with
  | 0 => show g.val + 1 ≤ 8; omega
  | 1 => show 544 + 8 ≤ 552; omega
  | 2 => show 0 + 128 ≤ 128; omega

/-- One sequence's 128 rows in group `g`. -/
def slabRect (g : Fin 8) (n : Fin 4) : Rect S8x552x128 := Rect.unit (s := S8x552x128) ![g.val, 136 * n.val, 0] S1x128x128.size (slab_inb g n)

/-- The eight rows after the four sequences' in group `g`. -/
def lastRect (g : Fin 8) : Rect S8x552x128 := Rect.unit (s := S8x552x128) ![g.val, 544, 0] S1x8x128.size (last_inb g)

theorem slab_slices (n : Fin 4) : S544x128.Slices ![128 * n.val, 0] S128x128 := by
  match n with
  | 0 => exact slices_S544x128_o0_0_S128x128
  | 1 => exact slices_S544x128_o128_0_S128x128
  | 2 => exact slices_S544x128_o256_0_S128x128
  | 3 => exact slices_S544x128_o384_0_S128x128

/-- One sequence's rows as they are stored. -/
def slab (X : FVec F S544x128 .f32) (g : Fin 8) (n : Fin 4) : View.Piece (Elt F) S8x552x128 .f32 :=
  ⟨slabRect g n, shapeCast S1x128x128 (extractStridedSlice S128x128 ![128 * n.val, 0] X (slab_slices n)) shapeCasts_S128x128_S1x128x128⟩

/-- The rows after them as they are stored. -/
def last (X : FVec F S544x128 .f32) (g : Fin 8) : View.Piece (Elt F) S8x552x128 .f32 :=
  ⟨lastRect g, shapeCast S1x8x128 (extractStridedSlice S8x128 ![512, 0] X slices_S544x128_o512_0_S8x128) shapeCasts_S8x128_S1x8x128⟩

/-- One group's stores, the last first. -/
def slabs (X : FVec F S544x128 .f32) (g : Fin 8) : List (View.Piece (Elt F) S8x552x128 .f32) :=
  [last X g, slab X g 3, slab X g 2, slab X g 1, slab X g 0]

/-- All groups' stores, the last first. -/
def pieces (X : Fin 8 → FVec F S544x128 .f32) : List (View.Piece (Elt F) S8x552x128 .f32) :=
  slabs (X 7) 7 ++ (slabs (X 6) 6 ++ (slabs (X 5) 5 ++ (slabs (X 4) 4 ++ (slabs (X 3) 3 ++ (slabs (X 2) 2 ++ (slabs (X 1) 1 ++ slabs (X 0) 0))))))

theorem row_congr (X : Fin 8 → FVec F S544x128 .f32) {g g' : Fin 8} {y y' : S544x128.Idx} (hg : g.val = g'.val) (h0 : (y 0).val = (y' 0).val)
    (h1 : (y 1).val = (y' 1).val) : X g y = X g' y' := by
  obtain rfl := Fin.ext hg
  refine congrArg (X g) (funext fun a => ?_)
  match a with
  | 0 => exact Fin.ext h0
  | 1 => exact Fin.ext h1

theorem slab_agrees (X : Fin 8 → FVec F S544x128 .f32) (g : Fin 8) (n : Fin 4) (x : (slabRect g n).shape.Idx) :
    (slab (X g) g n).2 x = fill X ((slab (X g) g n).1.emb x) := by
  have h0 : (x 0).val < 1 := (x 0).isLt
  have h1 : (x 1).val < 128 := (x 1).isLt
  unfold slab fill
  dsimp only
  rw [ValueIdx.eq_ix3 x]
  refine (ValueIdx.shapeCast_ab_1ab_apply _ _ _ _ _).trans ?_
  refine row_congr X ?_ ?_ ?_
  · show g.val = g.val + 1 * (x 0).val; omega
  · show 128 * n.val + (x 1).val = chunkOf (136 * n.val + 1 * (x 1).val)
    rw [Nat.one_mul, chunkOf_slab _ _ n.isLt h1]
  · show 0 + (x 2).val = 0 + 1 * (x 2).val; omega

theorem last_agrees (X : Fin 8 → FVec F S544x128 .f32) (g : Fin 8) (x : (lastRect g).shape.Idx) :
    (last (X g) g).2 x = fill X ((last (X g) g).1.emb x) := by
  have h0 : (x 0).val < 1 := (x 0).isLt
  have h1 : (x 1).val < 8 := (x 1).isLt
  unfold last fill
  dsimp only
  rw [ValueIdx.eq_ix3 x]
  refine (ValueIdx.shapeCast_ab_1ab_apply _ _ _ _ _).trans ?_
  refine row_congr X ?_ ?_ ?_
  · show g.val = g.val + 1 * (x 0).val; omega
  · show 512 + (x 1).val = chunkOf (544 + 1 * (x 1).val)
    rw [Nat.one_mul, chunkOf_last]
  · show 0 + (x 2).val = 0 + 1 * (x 2).val; omega

theorem slabs_agree (X : Fin 8 → FVec F S544x128 .f32) (g : Fin 8) (p : View.Piece (Elt F) S8x552x128 .f32) (hp : p ∈ slabs (X g) g) (x : p.1.shape.Idx) :
    p.2 x = fill X (p.1.emb x) := by
  simp only [slabs, List.mem_cons, List.not_mem_nil, or_false] at hp
  rcases hp with rfl | rfl | rfl | rfl | rfl
  · exact last_agrees X g x
  all_goals exact slab_agrees X g _ x

theorem pieces_agree (X : Fin 8 → FVec F S544x128 .f32) (p : View.Piece (Elt F) S8x552x128 .f32) (hp : p ∈ pieces X) (x : p.1.shape.Idx) :
    p.2 x = fill X (p.1.emb x) := by
  simp only [pieces, List.mem_append] at hp
  rcases hp with h | h | h | h | h | h | h | h <;> exact slabs_agree X _ p h x

theorem mem_pieces (X : Fin 8 → FVec F S544x128 .f32) (g : Fin 8) (p : View.Piece (Elt F) S8x552x128 .f32) (hp : p ∈ slabs (X g) g) : p ∈ pieces X := by
  simp only [pieces, List.mem_append]
  match g with
  | 0 => tauto
  | 1 => tauto
  | 2 => tauto
  | 3 => tauto
  | 4 => tauto
  | 5 => tauto
  | 6 => tauto
  | 7 => tauto

theorem slab_mem (X : FVec F S544x128 .f32) (g : Fin 8) (n : Fin 4) : slab X g n ∈ slabs X g := by
  simp only [slabs, List.mem_cons, List.not_mem_nil, or_false]
  match n with
  | 0 => tauto
  | 1 => tauto
  | 2 => tauto
  | 3 => tauto

/-- A row of the four sequences' is stored. -/
theorem covered (X : Fin 8 → FVec F S544x128 .f32) (y : S8x552x128.Idx) (n j : ℕ) (hn : n < 4) (hj : j < 128) (e : (y 1).val = 136 * n + j) :
    ∃ p ∈ pieces X, y ∈ p.1.set := by
  refine ⟨slab (X (y 0)) (y 0) ⟨n, hn⟩, mem_pieces X _ _ (slab_mem _ _ _), (LoadRect.mem_set _).mpr fun a => ?_⟩
  match a with
  | 0 => exact ⟨0, by show 0 < 1; omega, by show (y 0).val = (y 0).val + 1 * 0; omega⟩
  | 1 => exact ⟨j, hj, by show (y 1).val = 136 * n + 1 * j; omega⟩
  | 2 => exact ⟨(y 2).val, (y 2).isLt, by show (y 2).val = 0 + 1 * (y 2).val; omega⟩

/-- So are the rows after them. -/
theorem covered_last (X : Fin 8 → FVec F S544x128 .f32) (y : S8x552x128.Idx) (e : 544 ≤ (y 1).val) :
    ∃ p ∈ pieces X, y ∈ p.1.set := by
  have h1 : (y 1).val < 552 := (y 1).isLt
  refine ⟨last (X (y 0)) (y 0), mem_pieces X _ _ (List.mem_cons_self), (LoadRect.mem_set _).mpr fun a => ?_⟩
  match a with
  | 0 => exact ⟨0, by show 0 < 1; omega, by show (y 0).val = (y 0).val + 1 * 0; omega⟩
  | 1 => exact ⟨(y 1).val - 544, by show (y 1).val - 544 < 8; omega, by show (y 1).val = 544 + 1 * ((y 1).val - 544); omega⟩
  | 2 => exact ⟨(y 2).val, (y 2).isLt, by show (y 2).val = 0 + 1 * (y 2).val; omega⟩

/-- The offsets of a group's rows for a chunk. -/
theorem rowOff_eq (g : Fin 8) (k : Fin k0_t1_loop.trips) : rowOff g k = ![g.val, k.val, 0] := by
  revert k; revert g; decide +kernel

/-- The rows of chunk `k` in group `g`, one per sequence. -/
def chunkRows (X : Fin 8 → FVec F S544x128 .f32) (g : Fin 8) (k : Fin k0_t1_loop.trips) : Vec F S1x4x128 .f32 :=
  fun y => X g (ix2 ⟨128 * (y 1).val + k.val, by have h1 : (y 1).val < 4 := (y 1).isLt; have h2 : k.val < 128 := k.isLt; omega⟩ (y 2))

/-- The row after the sequences' in group `g`. -/
def lastRow (X : Fin 8 → FVec F S544x128 .f32) (g : Fin 8) : Vec F S1x1x128 .f32 := fun y => X g (ix2 ⟨512, by decide⟩ (y 2))

/-- What the loop reads at chunk `k`, whatever the buffer held before. -/
theorem readRows_pieces {c : Dev nD} (b : Memref sig .tc .vmem S8x552x128 .f32) (f : Buf (Elt F) (b.view.loc (c : Thread nD τ)))
    (X : Fin 8 → FVec F S544x128 .f32) : readRows (c := c) b (b.view.writes (Elt F) f (pieces X)) = chunkRows X := by
  funext g k y
  have h0 : (y 0).val < 1 := (y 0).isLt
  have h1 : (y 1).val < 4 := (y 1).isLt
  have hk : k.val < 128 := k.isLt
  have e1 : ((rowAt g k).emb y 1).val = 136 * (y 1).val + k.val := by
    show rowOff g k 1 + 136 * (y 1).val = _
    rw [rowOff_eq]; show k.val + 136 * (y 1).val = _; omega
  refine (View.read_writes_apply_of_pieces b.view f (fill X) (pieces X) (pieces_agree X) ((rowAt g k).emb y) (covered X _ (y 1).val k.val h1 hk e1)).trans ?_
  refine row_congr X ?_ ?_ ?_
  · show rowOff g k 0 + 1 * (y 0).val = g.val
    rw [rowOff_eq]; show g.val + 1 * (y 0).val = _; omega
  · show chunkOf ((rowAt g k).emb y 1).val = 128 * (y 1).val + k.val
    rw [e1, chunkOf_slab _ _ h1 hk]
  · show rowOff g k 2 + 1 * (y 2).val = (y 2).val
    rw [rowOff_eq]; show 0 + 1 * (y 2).val = _; omega

theorem row_inb (g : Fin 8) : ∀ a, (![g.val, 544, 0] : Fin 3 → ℕ) a + S1x1x128.size a ≤ S8x552x128.size a := by
  intro a; have := g.isLt
  match a with
  | 0 => show g.val + 1 ≤ 8; omega
  | 1 => show 544 + 1 ≤ 552; omega
  | 2 => show 0 + 128 ≤ 128; omega

/-- The row the states begin from, whatever the buffer held before. -/
theorem readCov_pieces (b : Memref sig .tc .vmem S8x552x128 .f32) (X : Fin 8 → FVec F S544x128 .f32) (g : Fin 8) :
    b.view.readCov (pieces X) (Rect.unit (s := S8x552x128) ![g.val, 544, 0] S1x1x128.size (row_inb g)).toLoadRect = lastRow X g := by
  rw [View.readCov_eq_canon']
  funext y
  have h0 : (y 0).val < 1 := (y 0).isLt
  have h1 : (y 1).val < 1 := (y 1).isLt
  refine (View.canon_apply_of_pieces (fill X) (pieces X) (pieces_agree X) _ (covered_last X _ ?_)).trans ?_
  · show 544 ≤ 544 + 1 * (y 1).val; omega
  refine row_congr X ?_ ?_ ?_
  · show g.val + 1 * (y 0).val = g.val; omega
  · show chunkOf (544 + 1 * (y 1).val) = 512
    rw [Nat.one_mul, chunkOf_last]; omega
  · show 0 + 1 * (y 2).val = (y 2).val; omega

/-! ## The history of the states in the third -/

/-- The states of one group, stored as four rows. -/
def histFill (p : Fin 8 → Pair F) : Vec F S8x552x128 .f32 :=
  fun y => (p (y 0)).1 (ix2 ⟨(y 1).val / 136 % 4, Nat.mod_lt _ (by decide)⟩ (y 2))

theorem state_congr (p : Fin 8 → Pair F) {g g' : Fin 8} {y y' : S4x128.Idx} (hg : g.val = g'.val) (h0 : (y 0).val = (y' 0).val)
    (h1 : (y 1).val = (y' 1).val) : (p g).1 y = (p g').1 y' := by
  obtain rfl := Fin.ext hg
  refine congrArg (p g).1 (funext fun a => ?_)
  match a with
  | 0 => exact Fin.ext h0
  | 1 => exact Fin.ext h1

theorem rowAt_emb0 (g : Fin 8) (k : Fin k0_t1_loop.trips) (y : (rowAt g k).shape.Idx) : ((rowAt g k).emb y 0).val = g.val := by
  have h0 : (y 0).val < 1 := (y 0).isLt
  show rowOff g k 0 + 1 * (y 0).val = g.val
  rw [rowOff_eq]; show g.val + 1 * (y 0).val = _; omega

theorem rowAt_emb1 (g : Fin 8) (k : Fin k0_t1_loop.trips) (y : (rowAt g k).shape.Idx) : ((rowAt g k).emb y 1).val = 136 * (y 1).val + k.val := by
  show rowOff g k 1 + 136 * (y 1).val = _
  rw [rowOff_eq]; show k.val + 136 * (y 1).val = _; omega

theorem rowAt_emb2 (g : Fin 8) (k : Fin k0_t1_loop.trips) (y : (rowAt g k).shape.Idx) : ((rowAt g k).emb y 2).val = (y 2).val := by
  show rowOff g k 2 + 1 * (y 2).val = (y 2).val
  rw [rowOff_eq]; show 0 + 1 * (y 2).val = _; omega

theorem stored_piece (p : Fin 8 → Pair F) (g : Fin 8) (k : Fin k0_t1_loop.trips) (x : (rowAt g k).shape.Idx) :
    k0_pay1 (p g).1 x = histFill p ((rowAt g k).emb x) := by
  have h1 : (x 1).val < 4 := (x 1).isLt
  have hk : k.val < 128 := k.isLt
  unfold histFill k0_pay1
  dsimp only
  have e : (x : S1x4x128.Idx) = ix3 (x 0) (x 1) (x 2) := ValueIdx.eq_ix3 x
  rw [show shapeCast S1x4x128 (p g).1 shapeCasts_S4x128_S1x4x128 x = shapeCast S1x4x128 (p g).1 shapeCasts_S4x128_S1x4x128 (ix3 (x 0) (x 1) (x 2)) from congrArg _ e]
  refine (ValueIdx.shapeCast_ab_1ab_apply _ _ _ _ _).trans ?_
  refine state_congr p ?_ ?_ ?_
  · exact (rowAt_emb0 g k x).symm
  · show (x 1).val = ((rowAt g k).emb x 1).val / 136 % 4
    rw [rowAt_emb1]; omega
  · exact (rowAt_emb2 g k x).symm

theorem stored_agree (p : Fin 8 → Pair F) (k : Fin k0_t1_loop.trips) (q : View.Piece (Elt F) S8x552x128 .f32) (hq : q ∈ stored p k) (x : q.1.shape.Idx) :
    q.2 x = histFill p (q.1.emb x) := by
  simp only [stored, List.mem_cons, List.not_mem_nil, or_false] at hq
  rcases hq with rfl | rfl | rfl | rfl | rfl | rfl | rfl | rfl <;> exact stored_piece p _ k x

theorem stored_rect (p : Fin 8 → Pair F) (k : Fin k0_t1_loop.trips) (q : View.Piece (Elt F) S8x552x128 .f32) (hq : q ∈ stored p k) :
    ∃ g, q.1 = rowAt g k := by
  simp only [stored, List.mem_cons, List.not_mem_nil, or_false] at hq
  rcases hq with rfl | rfl | rfl | rfl | rfl | rfl | rfl | rfl <;> exact ⟨_, rfl⟩

theorem stored_mem (p : Fin 8 → Pair F) (k : Fin k0_t1_loop.trips) (g : Fin 8) : (⟨rowAt g k, k0_pay1 (p g).1⟩ : View.Piece (Elt F) S8x552x128 .f32) ∈ stored p k := by
  simp only [stored, List.mem_cons, List.not_mem_nil, or_false]
  match g with
  | 0 => tauto
  | 1 => tauto
  | 2 => tauto
  | 3 => tauto
  | 4 => tauto
  | 5 => tauto
  | 6 => tauto
  | 7 => tauto

theorem row_mem (g : Fin 8) (k : Fin k0_t1_loop.trips) (y : S8x552x128.Idx) (n : Fin 4) (e0 : (y 0).val = g.val) (e1 : (y 1).val = 136 * n.val + k.val) :
    y ∈ (rowAt g k).set := by
  refine (LoadRect.mem_set _).mpr fun a => ?_
  match a with
  | 0 => exact ⟨0, by show 0 < 1; omega, by show (y 0).val = rowOff g k 0 + 1 * 0; rw [rowOff_eq]; exact e0⟩
  | 1 => exact ⟨n.val, n.isLt, by show (y 1).val = rowOff g k 1 + 136 * n.val; rw [rowOff_eq, e1]; exact Nat.add_comm _ _⟩
  | 2 => exact ⟨(y 2).val, (y 2).isLt, by show (y 2).val = rowOff g k 2 + 1 * (y 2).val; rw [rowOff_eq]; show _ = 0 + 1 * (y 2).val; omega⟩

/-- After `k` trips the buffer holds, in the row of a chunk before the `k`-th, the states before that chunk. -/
theorem read_history {c : Dev nD} (b : Memref sig .tc .vmem S8x552x128 .f32) (f : Buf (Elt F) (b.view.loc (c : Thread nD τ))) (s : ℕ → Fin 8 → Pair F)
    (y : S8x552x128.Idx) (n : Fin 4) (j : ℕ) (e : (y 1).val = 136 * n.val + j) :
    ∀ k, k ≤ 128 → j < k → b.view.read (Elt F) (history b f s k) y = (s j (y 0)).1 (ix2 n (y 2)) := by
  have hn := n.isLt
  intro k
  induction k with
  | zero => intro _ h; omega
  | succ k ih =>
    intro hk hj
    rw [history, dif_pos (show k < k0_t1_loop.trips from hk)]
    by_cases hjk : j < k
    · rw [View.read_writes_apply_of_forall_not_mem]
      · exact ih (by omega) hjk
      · intro q hq hy
        obtain ⟨g, hg⟩ := stored_rect _ _ q hq
        rw [hg] at hy
        obtain ⟨x, hx⟩ := (rowAt g _).exists_idx_of_mem hy
        have h1 : (x 1).val < 4 := (x 1).isLt
        have := rowAt_emb1 g ⟨k, hk⟩ x
        rw [show (rowAt g ⟨k, hk⟩).emb x = y from hx, e] at this
        have this : 136 * n.val + j = 136 * (x 1).val + k := this
        omega
    · obtain rfl : j = k := by omega
      refine (View.read_writes_apply_of_pieces b.view _ (histFill (s j)) _ (stored_agree (s j) _) y ⟨_, stored_mem (s j) _ (y 0), row_mem _ _ y n rfl e⟩).trans ?_
      refine state_congr (s j) rfl ?_ rfl
      show (y 1).val / 136 % 4 = n.val
      rw [e]; omega

/-- One sequence's states in group `g`, one row per chunk. -/
def histSlab (s : ℕ → Fin 8 → Pair F) (g : Fin 8) (n : Fin 4) : Vec F S1x128x128 .f32 := fun y => (s (y 1).val g).1 (ix2 n (y 2))

theorem readAt_history {c : Dev nD} (b : Memref sig .tc .vmem S8x552x128 .f32) (f : Buf (Elt F) (b.view.loc (c : Thread nD τ))) (s : ℕ → Fin 8 → Pair F)
    (g : Fin 8) (n : Fin 4) : b.view.readAt (Elt F) (slabRect g n).toLoadRect (history b f s k0_t1_loop.trips) = histSlab s g n := by
  funext y
  have h0 : (y 0).val < 1 := (y 0).isLt
  have h1 : (y 1).val < 128 := (y 1).isLt
  refine (read_history b f s ((slabRect g n).emb y) n (y 1).val ?_ 128 (le_refl _) h1).trans ?_
  · show 136 * n.val + 1 * (y 1).val = _; omega
  · refine state_congr _ ?_ rfl ?_
    · show g.val + 1 * (y 0).val = g.val; omega
    · show 0 + 1 * (y 2).val = (y 2).val; omega

end Cert.Scan

end
-- ==== Proof.ScanExec.lean ====
/- The scan: the loop run as a whole, from the rows the scratch buffers hold at its start to the states and the history at its end. -/
module

public import proofs.«01_k».proof.Proof.ScanRows
public import proofs.«01_k».proof.Proof.Gen.KernelIdeal.Frame
public import proofs.«01_k».proof.Proof.Gen.KernelIdeal.Skeleton
public import proofs.«01_k».proof.Proof.Gen.KernelIdeal.Loops
public import Idealize.ShloMosaic.Lib.Claim
public import Idealize.ShloMosaic.Lib.Pipeline.ReadBack
public import Idealize.ShloMosaic.Lib.Pipeline.ValueKit

@[expose] public section

set_option maxRecDepth 16384

noncomputable section

namespace Cert.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! # The loop, with what follows it -/

section Loop

variable (c : Dev nD) (i : grid0.Coords) (arg1 : Memref sig .tc .vmem S8x544x256 .bf16) (harg1 : arg1.IsWhole) (arg2 : Memref sig .tc .vmem S256x128 .f32) (harg2 : arg2.IsWhole) (arg3 : Memref sig .tc .vmem S8x256x256 .bf16) (harg3 : arg3.IsWhole) (arg4 : Memref sig .tc .vmem S8x256x128 .bf16) (harg4 : arg4.IsWhole) (arg5 : Memref sig .tc .vmem S8x256x128 .bf16) (harg5 : arg5.IsWhole) (arg6 : Memref sig .tc .vmem S8x128x128 .bf16) (harg6 : arg6.IsWhole) (arg7 : Memref sig .tc .vmem S8x128x128 .bf16) (harg7 : arg7.IsWhole) (arg8 : Memref sig .tc .vmem S8x4x128 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S8x544x256 .f32) (harg11 : arg11.IsWhole) (arg12 : Memref sig .tc .vmem S128x128 .f32) (harg12 : arg12.IsWhole) (arg13 : Memref sig .tc .vmem S8x4x128 .f32) (harg13 : arg13.IsWhole) (arg14 : Memref sig .tc .vmem S128x512 .f32) (harg14 : arg14.IsWhole) (arg15 : Memref sig .tc .vmem S128x512 .f32) (harg15 : arg15.IsWhole) (arg16 : Memref sig .tc .vmem S8x552x128 .f32) (harg16 : arg16.IsWhole) (arg17 : Memref sig .tc .vmem S8x552x128 .f32) (harg17 : arg17.IsWhole) (arg18 : Memref sig .tc .vmem S8x552x128 .f32) (harg18 : arg18.IsWhole)
  (v369 : FVec F S1x128 .f32) (v371 : FVec F S1x128 .f32) (v373 : FVec F S1x128 .f32) (v375 : FVec F S1x128 .f32) (v377 : FVec F S1x128 .f32) (v379 : FVec F S1x128 .f32) (v381 : FVec F S1x128 .f32) (v383 : FVec F S1x128 .f32) (v385 : FVec F S1x128 .f32) (v387 : FVec F S1x128 .f32) (v389 : FVec F S1x128 .f32) (v391 : FVec F S1x128 .f32) (v393 : FVec F S1x128 .f32) (v395 : FVec F S1x128 .f32) (v397 : FVec F S1x128 .f32) (v399 : FVec F S1x128 .f32) (v403 : FVec F S4x128 .f32) (v407 : FVec F S4x128 .f32) (v411 : FVec F S4x128 .f32) (v415 : FVec F S4x128 .f32) (v419 : FVec F S4x128 .f32) (v423 : FVec F S4x128 .f32) (v427 : FVec F S4x128 .f32) (v431 : FVec F S4x128 .f32) (v435 : FVec F S4x128 .f32) (v436 : Vec F S1x1x128 .f32)

/-- The loop leaves the first two buffers as they were and in the third the states before each chunk, and hands on the states after the last. -/
theorem loop_wp (b16 : Buf (Elt F) (arg16.view.loc (c : Thread nD τ))) (b17 : Buf (Elt F) (arg17.view.loc (c : Thread nD τ))) (b18 : Buf (Elt F) (arg18.view.loc (c : Thread nD τ)))
    (init : Carry F) (s : ℕ → Fin 8 → Pair F) {β : Type} {kk : Carry F → Prog (TpuEff nD τ sig (Elt F) Λ₀ .tc) β} {P : sProp 𝕄} {Q : β → sProp 𝕄}
    (hs : loopStates c arg16 arg17 v369 v371 v373 v375 v377 v379 v381 v383 v385 v387 v389 v391 v393 v395 v397 v399 b16 b17 init = s)
    (h : P ⊢ iprop(∀ g18 : Buf (Elt F) (arg18.view.loc (c : Thread nD τ)), ⌜∀ g n, arg18.view.readAt (Elt F) (slabRect g n).toLoadRect g18 = histSlab s g n⌝
      -∗ (∃ d, owns (c : Thread nD τ) arg16 fullShare d) -∗ (∃ d, owns (c : Thread nD τ) arg17 fullShare d) -∗ (arg18.view.loc (c : Thread nD τ) ↦[arg18.view.set]{fullShare} g18)
      -∗ wp frame (wpE (defs₀ (F := F)) Variants.none (c : Thread nD τ) none) Set.univ (kk (carry (s k0_t1_loop.trips))) Q)) :
    P ⊢ iprop((arg16.view.loc (c : Thread nD τ) ↦[arg16.view.set]{fullShare} b16) -∗ (arg17.view.loc (c : Thread nD τ) ↦[arg17.view.set]{fullShare} b17) -∗ (arg18.view.loc (c : Thread nD τ) ↦[arg18.view.set]{fullShare} b18)
      -∗ wp frame (wpE (defs₀ (F := F)) Variants.none (c : Thread nD τ) none) Set.univ
          (k0_t1_loop.for k0_t1_ok init (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v369 v371 v373 v375 v377 v379 v381 v383 v385 v387 v389 v391 v393 v395 v397 v399 v403 v407 v411 v415 v419 v423 v427 v431 v435 v436) >>= kk) Q) := by
  subst hs
  refine h.trans ?_
  iintro Hk H16 H17 H18
  iapply (exec_loop _ _ _ _ _ _ _ _ _ (loopInv (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v369 v371 v373 v375 v377 v379 v381 v383 v385 v387 v389 v391 v393 v395 v397 v399 v403 v407 v411 v415 v419 v423 v427 v431 v435 v436 b16 b17 b18 init)) $$ [H16 H17 H18]
  · unfold loopInv
    dsimp only
    isplitr; · ipureintro; rfl
    isplitl [H16]; · iexact H16
    isplitl [H17]; · iexact H17
    iexact H18
  · unfold loopInv
    dsimp only
    iintro %acc ⟨%e, H16, H17, H18⟩
    subst e
    iapply Hk $$ %(history arg18 b18 (loopStates c arg16 arg17 v369 v371 v373 v375 v377 v379 v381 v383 v385 v387 v389 v391 v393 v395 v397 v399 b16 b17 init) k0_t1_loop.trips) [] [H16] [H17] [H18]
    · ipureintro; intro g n; exact readAt_history arg18 b18 _ g n
    · iexists (arg16.view.read (Elt F) b16); unfold owns; iexists b16; isplitr
      · ipureintro; rfl
      · iexact H16
    · iexists (arg17.view.read (Elt F) b17); unfold owns; iexists b17; isplitr
      · ipureintro; rfl
      · iexact H17
    · iexact H18

end Loop

end Cert.Scan

end
-- ==== Proof.ScanSpec.lean ====
/- The scan: what a grid point reads from its blocks, and what its five result blocks are, group by group. -/
module

public import proofs.«01_k».proof.Proof.ScanExec
public import proofs.«01_k».proof.Proof.Gen.KernelIdeal.Frame
public import proofs.«01_k».proof.Proof.Gen.KernelIdeal.Skeleton
public import proofs.«01_k».proof.Proof.Gen.KernelIdeal.Loops
public import Idealize.ShloMosaic.Lib.Claim
public import Idealize.ShloMosaic.Lib.Pipeline.ReadBack
public import Idealize.ShloMosaic.Lib.Pipeline.ValueKit

@[expose] public section

set_option maxRecDepth 16384

noncomputable section

namespace Cert.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! # What a call leaves, as a function of its blocks -/

theorem group_inb {a b : ℕ} (g : Fin 8) (r h : ℕ) (hr : r + h ≤ a) : ∀ i, (![g.val, r, 0] : Fin 3 → ℕ) i + (![1, h, b] : Fin 3 → ℕ) i ≤ (![8, a, b] : Fin 3 → ℕ) i := by
  intro i; have := g.isLt
  match i with
  | 0 => show g.val + 1 ≤ 8; omega
  | 1 => exact hr
  | 2 => show 0 + b ≤ b; omega

theorem col_inb (g : Fin 8) : ∀ i, (![0, 64 * g.val] : Fin 2 → ℕ) i + S128x64.size i ≤ S128x512.size i := by
  intro i; have := g.isLt
  match i with
  | 0 => show 0 + 128 ≤ 128; omega
  | 1 => show 64 * g.val + 64 ≤ 512; omega

/-- The inputs of group `g`, chunk by chunk. -/
def inUc (x : Vec F S8x544x256 .bf16) (g : Fin 8) : Vec F S1x544x256 .bf16 :=
  View.ld x (Rect.unit (s := S8x544x256) ![g.val, 0, 0] S1x544x256.size (group_inb g 0 544 (by decide)))

/-- The operator of group `g` within a chunk. -/
def inM (x : Vec F S8x256x256 .bf16) (g : Fin 8) : Vec F S1x256x256 .bf16 :=
  View.ld x (Rect.unit (s := S8x256x256) ![g.val, 0, 0] S1x256x256.size (group_inb g 0 256 (by decide)))

/-- The operator of group `g` into the states or out of them. -/
def inW (x : Vec F S8x256x128 .bf16) (g : Fin 8) : Vec F S1x256x128 .bf16 :=
  View.ld x (Rect.unit (s := S8x256x128) ![g.val, 0, 0] S1x256x128.size (group_inb g 0 256 (by decide)))

/-- The operator of group `g` for one step. -/
def inB (x : Vec F S8x128x128 .bf16) (g : Fin 8) : Vec F S1x128x128 .bf16 :=
  View.ld x (Rect.unit (s := S8x128x128) ![g.val, 0, 0] S1x128x128.size (group_inb g 0 128 (by decide)))

/-- Row `r` of the multipliers of group `g`. -/
def inA (x : Vec F S8x4x128 .f32) (r : Fin 4) (g : Fin 8) : Vec F S1x1x128 .f32 :=
  View.ld x (Rect.unit (s := S8x4x128) ![g.val, r.val, 0] S1x1x128.size (group_inb g r.val 1 r.isLt))

/-- The given states of group `g`. -/
def inS (x : Vec F S128x512 .f32) (g : Fin 8) : Vec F S128x64 .f32 :=
  View.ld x (Rect.unit (s := S128x512) ![0, 64 * g.val] S128x64.size (col_inb g))

/-- The rows of the decoded inputs. -/
def inU (x : Vec F S256x128 .f32) : Vec F S128x128 .f32 := View.ld x (Rect.unit (s := S256x128) ![16, 0] S128x128.size inb_S256x128_S128x128_16_0)

/-- What each chunk adds to the states of group `g`. -/
def adds (x1 : Vec F S8x544x256 .bf16) (x4 : Vec F S8x256x128 .bf16) (g : Fin 8) : FVec F S544x128 .f32 := k0_pay19 (inUc x1 g) (inW x4 g)

/-- The same with the halves exchanged. -/
def swapped (x1 : Vec F S8x544x256 .bf16) (x4 : Vec F S8x256x128 .bf16) (g : Fin 8) : FVec F S544x128 .f32 := k0_pay25 (inUc x1 g) (inW x4 g)

/-- A row of multipliers. -/
def mults (x8 : Vec F S8x4x128 .f32) (r : Fin 4) (g : Fin 8) : FVec F S1x128 .f32 := k0_pay132 (inA x8 r g)

/-- The states before the first chunk. -/
def start (X X' : Fin 8 → FVec F S544x128 .f32) (g : Fin 8) : Pair F := (k0_pay144 (lastRow X g), k0_pay144 (lastRow X' g))

/-- The states before each chunk. -/
def scan (x1 : Vec F S8x544x256 .bf16) (x4 : Vec F S8x256x128 .bf16) (x8 : Vec F S8x4x128 .f32) : ℕ → Fin 8 → Pair F :=
  states (chunkRows (adds x1 x4)) (chunkRows (swapped x1 x4)) (mults x8 0) (mults x8 1) (start (adds x1 x4) (swapped x1 x4))

/-- The outputs of group `g`, chunk by chunk, from its history. -/
def outY (H : Fin 8 → Fin 4 → Vec F S1x128x128 .f32) (x1 : Vec F S8x544x256 .bf16) (x3 : Vec F S8x256x256 .bf16) (x5 : Vec F S8x256x128 .bf16) (g : Fin 8) : Vec F S1x544x256 .f32 :=
  k0_pay160 (H g 0) (H g 1) (H g 2) (H g 3) (inUc x1 g) (inM x3 g) (inW x5 g)

/-- The states after the last chunk. -/
def outS (p : Fin 8 → Pair F) (g : Fin 8) : Vec F S1x4x128 .f32 := k0_pay159 (p g).1

/-- The real parts of the states after one step. -/
def outRe (x2 : Vec F S256x128 .f32) (x6 : Vec F S8x128x128 .bf16) (x8 : Vec F S8x4x128 .f32) (x9 x10 : Vec F S128x512 .f32) (g : Fin 8) : Vec F S128x64 .f32 :=
  k0_pay162 (k0_pay157 (inU x2)) (inS x9 g) (inS x10 g) (inA x8 2 g) (inA x8 3 g) (inB x6 g)

/-- Their imaginary parts. -/
def outIm (x2 : Vec F S256x128 .f32) (x6 : Vec F S8x128x128 .bf16) (x8 : Vec F S8x4x128 .f32) (x9 x10 : Vec F S128x512 .f32) (g : Fin 8) : Vec F S128x64 .f32 :=
  k0_pay163 (k0_pay157 (inU x2)) (inS x9 g) (inS x10 g) (inA x8 2 g) (inA x8 3 g) (inB x6 g)

/-- The decoded outputs' sum over the groups so far, with group `g`. -/
def addYs (x2 : Vec F S256x128 .f32) (x6 x7 : Vec F S8x128x128 .bf16) (x8 : Vec F S8x4x128 .f32) (x9 x10 : Vec F S128x512 .f32) (acc : FVec F S128x128 .f32) (g : Fin 8) : FVec F S128x128 .f32 :=
  k0_pay164 (k0_pay157 (inU x2)) acc (inS x9 g) (inS x10 g) (inA x8 2 g) (inA x8 3 g) (inB x6 g) (inB x7 g)

/-- The decoded outputs. -/
def outYs (x2 : Vec F S256x128 .f32) (x6 x7 : Vec F S8x128x128 .bf16) (x8 : Vec F S8x4x128 .f32) (x9 x10 : Vec F S128x512 .f32) : FVec F S128x128 .f32 :=
  let f := addYs x2 x6 x7 x8 x9 x10
  f (f (f (f (f (f (f (f k0_pay158 0) 1) 2) 3) 4) 5) 6) 7

/-! ## Stores by groups -/

/-- Group `g` of the outputs. -/
def groupRectY (g : Fin 8) : Rect S8x544x256 := Rect.unit (s := S8x544x256) ![g.val, 0, 0] S1x544x256.size (group_inb g 0 544 (by decide))

/-- The eight groups put together. -/
def joinY (Y : Fin 8 → Vec F S1x544x256 .f32) : Vec F S8x544x256 .f32 := fun y => Y (y 0) (ix3 0 (y 1) (y 2))

/-- The stores of the eight groups, the last first. -/
def groupsY (Y : Fin 8 → Vec F S1x544x256 .f32) : List (View.Piece (Elt F) S8x544x256 .f32) :=
  [⟨groupRectY 7, Y 7⟩,
    ⟨groupRectY 6, Y 6⟩,
    ⟨groupRectY 5, Y 5⟩,
    ⟨groupRectY 4, Y 4⟩,
    ⟨groupRectY 3, Y 3⟩,
    ⟨groupRectY 2, Y 2⟩,
    ⟨groupRectY 1, Y 1⟩,
    ⟨groupRectY 0, Y 0⟩]

theorem groupY_agrees (Y : Fin 8 → Vec F S1x544x256 .f32) (g : Fin 8) (x : (groupRectY g).shape.Idx) : Y g x = joinY Y ((groupRectY g).emb x) := by
  have h0 : (x 0).val < 1 := (x 0).isLt
  have e : (groupRectY g).emb x 0 = (g : Fin 8) := Fin.ext (show g.val + 1 * (x 0).val = g.val by omega)
  unfold joinY
  rw [show Y ((groupRectY g).emb x 0) = Y g from congrArg Y e]
  refine congrArg (Y g) (funext fun a => ?_)
  match a with
  | 0 => exact Fin.ext (show (x 0).val = 0 by omega)
  | 1 => exact Fin.ext (show (x 1).val = 0 + 1 * (x 1).val by omega)
  | 2 => exact Fin.ext (show (x 2).val = 0 + 1 * (x 2).val by omega)

theorem groupY_mem (y : S8x544x256.Idx) : y ∈ (groupRectY (y 0)).set := by
  refine (LoadRect.mem_set _).mpr fun a => ?_
  match a with
  | 0 => exact ⟨0, by show 0 < 1; omega, by show (y 0).val = (y 0).val + 1 * 0; omega⟩
  | 1 => exact ⟨(y 1).val, (y 1).isLt, by show (y 1).val = 0 + 1 * (y 1).val; omega⟩
  | 2 => exact ⟨(y 2).val, (y 2).isLt, by show (y 2).val = 0 + 1 * (y 2).val; omega⟩

theorem groupsY_mem (Y : Fin 8 → Vec F S1x544x256 .f32) (g : Fin 8) : (⟨groupRectY g, Y g⟩ : View.Piece (Elt F) S8x544x256 .f32) ∈ groupsY Y := by
  simp only [groupsY, List.mem_cons, List.not_mem_nil, or_false]
  match g with
  | 0 => tauto
  | 1 => tauto
  | 2 => tauto
  | 3 => tauto
  | 4 => tauto
  | 5 => tauto
  | 6 => tauto
  | 7 => tauto

/-- What the eight stores leave, whatever was there before. -/
theorem read_groupsY {c : Dev nD} (b : Memref sig .tc .vmem S8x544x256 .f32) (f : Buf (Elt F) (b.view.loc (c : Thread nD τ))) (Y : Fin 8 → Vec F S1x544x256 .f32) :
    b.view.read (Elt F) (b.view.writes (Elt F) f (groupsY Y)) = joinY Y := by
  funext y
  refine View.read_writes_apply_of_pieces b.view f (joinY Y) (groupsY Y) ?_ y ⟨_, groupsY_mem Y (y 0), groupY_mem y⟩
  intro q hq x
  simp only [groupsY, List.mem_cons, List.not_mem_nil, or_false] at hq
  rcases hq with rfl | rfl | rfl | rfl | rfl | rfl | rfl | rfl <;> exact groupY_agrees Y _ x

/-- Group `g` of the states. -/
def groupRectS (g : Fin 8) : Rect S8x4x128 := Rect.unit (s := S8x4x128) ![g.val, 0, 0] S1x4x128.size (group_inb g 0 4 (by decide))

/-- The eight groups put together. -/
def joinS (Y : Fin 8 → Vec F S1x4x128 .f32) : Vec F S8x4x128 .f32 := fun y => Y (y 0) (ix3 0 (y 1) (y 2))

/-- The stores of the eight groups, the last first. -/
def groupsS (Y : Fin 8 → Vec F S1x4x128 .f32) : List (View.Piece (Elt F) S8x4x128 .f32) :=
  [⟨groupRectS 7, Y 7⟩,
    ⟨groupRectS 6, Y 6⟩,
    ⟨groupRectS 5, Y 5⟩,
    ⟨groupRectS 4, Y 4⟩,
    ⟨groupRectS 3, Y 3⟩,
    ⟨groupRectS 2, Y 2⟩,
    ⟨groupRectS 1, Y 1⟩,
    ⟨groupRectS 0, Y 0⟩]

theorem groupS_agrees (Y : Fin 8 → Vec F S1x4x128 .f32) (g : Fin 8) (x : (groupRectS g).shape.Idx) : Y g x = joinS Y ((groupRectS g).emb x) := by
  have h0 : (x 0).val < 1 := (x 0).isLt
  have e : (groupRectS g).emb x 0 = (g : Fin 8) := Fin.ext (show g.val + 1 * (x 0).val = g.val by omega)
  unfold joinS
  rw [show Y ((groupRectS g).emb x 0) = Y g from congrArg Y e]
  refine congrArg (Y g) (funext fun a => ?_)
  match a with
  | 0 => exact Fin.ext (show (x 0).val = 0 by omega)
  | 1 => exact Fin.ext (show (x 1).val = 0 + 1 * (x 1).val by omega)
  | 2 => exact Fin.ext (show (x 2).val = 0 + 1 * (x 2).val by omega)

theorem groupS_mem (y : S8x4x128.Idx) : y ∈ (groupRectS (y 0)).set := by
  refine (LoadRect.mem_set _).mpr fun a => ?_
  match a with
  | 0 => exact ⟨0, by show 0 < 1; omega, by show (y 0).val = (y 0).val + 1 * 0; omega⟩
  | 1 => exact ⟨(y 1).val, (y 1).isLt, by show (y 1).val = 0 + 1 * (y 1).val; omega⟩
  | 2 => exact ⟨(y 2).val, (y 2).isLt, by show (y 2).val = 0 + 1 * (y 2).val; omega⟩

theorem groupsS_mem (Y : Fin 8 → Vec F S1x4x128 .f32) (g : Fin 8) : (⟨groupRectS g, Y g⟩ : View.Piece (Elt F) S8x4x128 .f32) ∈ groupsS Y := by
  simp only [groupsS, List.mem_cons, List.not_mem_nil, or_false]
  match g with
  | 0 => tauto
  | 1 => tauto
  | 2 => tauto
  | 3 => tauto
  | 4 => tauto
  | 5 => tauto
  | 6 => tauto
  | 7 => tauto

/-- What the eight stores leave, whatever was there before. -/
theorem read_groupsS {c : Dev nD} (b : Memref sig .tc .vmem S8x4x128 .f32) (f : Buf (Elt F) (b.view.loc (c : Thread nD τ))) (Y : Fin 8 → Vec F S1x4x128 .f32) :
    b.view.read (Elt F) (b.view.writes (Elt F) f (groupsS Y)) = joinS Y := by
  funext y
  refine View.read_writes_apply_of_pieces b.view f (joinS Y) (groupsS Y) ?_ y ⟨_, groupsS_mem Y (y 0), groupS_mem y⟩
  intro q hq x
  simp only [groupsS, List.mem_cons, List.not_mem_nil, or_false] at hq
  rcases hq with rfl | rfl | rfl | rfl | rfl | rfl | rfl | rfl <;> exact groupS_agrees Y _ x

/-- Group `g` of the states after one step. -/
def colRect (g : Fin 8) : Rect S128x512 := Rect.unit (s := S128x512) ![0, 64 * g.val] S128x64.size (col_inb g)

/-- The eight groups side by side. -/
def joinC (Y : Fin 8 → Vec F S128x64 .f32) : Vec F S128x512 .f32 :=
  fun y => Y ⟨(y 1).val / 64, by have : (y 1).val < 512 := (y 1).isLt; omega⟩ (ix2 (y 0) ⟨(y 1).val % 64, Nat.mod_lt _ (by decide)⟩)

/-- The stores of the eight groups, the last first. -/
def groupsC (Y : Fin 8 → Vec F S128x64 .f32) : List (View.Piece (Elt F) S128x512 .f32) :=
  [⟨colRect 7, Y 7⟩,
    ⟨colRect 6, Y 6⟩,
    ⟨colRect 5, Y 5⟩,
    ⟨colRect 4, Y 4⟩,
    ⟨colRect 3, Y 3⟩,
    ⟨colRect 2, Y 2⟩,
    ⟨colRect 1, Y 1⟩,
    ⟨colRect 0, Y 0⟩]

theorem joinC_congr (Y : Fin 8 → Vec F S128x64 .f32) {g g' : Fin 8} {y y' : S128x64.Idx} (hg : g.val = g'.val) (h0 : (y 0).val = (y' 0).val) (h1 : (y 1).val = (y' 1).val) :
    Y g y = Y g' y' := by
  obtain rfl := Fin.ext hg
  refine congrArg (Y g) (funext fun a => ?_)
  match a with
  | 0 => exact Fin.ext h0
  | 1 => exact Fin.ext h1

theorem groupC_agrees (Y : Fin 8 → Vec F S128x64 .f32) (g : Fin 8) (x : (colRect g).shape.Idx) : Y g x = joinC Y ((colRect g).emb x) := by
  have h1 : (x 1).val < 64 := (x 1).isLt
  have e : ((colRect g).emb x 1).val = 64 * g.val + 1 * (x 1).val := rfl
  refine joinC_congr Y ?_ ?_ ?_
  · show g.val = ((colRect g).emb x 1).val / 64
    rw [e]; omega
  · show (x 0).val = 0 + 1 * (x 0).val; omega
  · show (x 1).val = ((colRect g).emb x 1).val % 64
    rw [e]; omega

theorem groupC_mem (y : S128x512.Idx) (g : Fin 8) (hg : g.val = (y 1).val / 64) : y ∈ (colRect g).set := by
  refine (LoadRect.mem_set _).mpr fun a => ?_
  match a with
  | 0 => exact ⟨(y 0).val, (y 0).isLt, by show (y 0).val = 0 + 1 * (y 0).val; omega⟩
  | 1 => exact ⟨(y 1).val % 64, Nat.mod_lt _ (by decide), by show (y 1).val = 64 * g.val + 1 * ((y 1).val % 64); omega⟩

theorem groupsC_mem (Y : Fin 8 → Vec F S128x64 .f32) (g : Fin 8) : (⟨colRect g, Y g⟩ : View.Piece (Elt F) S128x512 .f32) ∈ groupsC Y := by
  simp only [groupsC, List.mem_cons, List.not_mem_nil, or_false]
  match g with
  | 0 => tauto
  | 1 => tauto
  | 2 => tauto
  | 3 => tauto
  | 4 => tauto
  | 5 => tauto
  | 6 => tauto
  | 7 => tauto

/-- What the eight stores leave, whatever was there before. -/
theorem read_groupsC {c : Dev nD} (b : Memref sig .tc .vmem S128x512 .f32) (f : Buf (Elt F) (b.view.loc (c : Thread nD τ))) (Y : Fin 8 → Vec F S128x64 .f32) :
    b.view.read (Elt F) (b.view.writes (Elt F) f (groupsC Y)) = joinC Y := by
  funext y
  refine View.read_writes_apply_of_pieces b.view f (joinC Y) (groupsC Y) ?_ y ⟨_, groupsC_mem Y ⟨(y 1).val / 64, by have : (y 1).val < 512 := (y 1).isLt; omega⟩, groupC_mem y _ rfl⟩
  intro q hq x
  simp only [groupsC, List.mem_cons, List.not_mem_nil, or_false] at hq
  rcases hq with rfl | rfl | rfl | rfl | rfl | rfl | rfl | rfl <;> exact groupC_agrees Y _ x

end Cert.Scan

end
-- ==== Proof.ScanMath.lean ====
/- The scan at exact arithmetic, element by element: a group's states as a sequence of complex numbers, and the payloads of
   the kernel's body in those terms. -/
module

public import proofs.«01_k».proof.Proof.ScanSpec
public import Idealize.ShloMosaic.Lib.Pointwise
public import Idealize.ShloMosaic.Lib.IdealHost
public import Idealize.ShloMosaic.Lib.KernelVsHost

@[expose] public section

set_option maxRecDepth 16384

noncomputable section

namespace Cert.Scan

open Cert.KernelIdeal Cert.KernelIdeal.Gen
open Idealize.ShloMosaic Idealize.ShloMosaic.TcCoe Idealize.ShloMosaic.Tactic
open Idealize.SL Idealize.SL.RA Idealize.SL.Sem

/-! ## The recurrence -/

/-- The lane of a state's real part. -/
def lo (p : Fin 64) : Fin 128 := ⟨p.val, by omega⟩

/-- The lane of its imaginary part. -/
def hi (p : Fin 64) : Fin 128 := ⟨64 + p.val, by omega⟩

theorem lo_or_hi (q : Fin 128) : (∃ p, q = lo p) ∨ ∃ p, q = hi p := by
  by_cases h : q.val < 64
  · exact .inl ⟨⟨q.val, h⟩, rfl⟩
  · exact .inr ⟨⟨q.val - 64, by omega⟩, Fin.ext (show q.val = 64 + (q.val - 64) by omega)⟩

/-- One state before chunk `k`: multiplied by `a + b i` at every chunk, what the chunk brings added. -/
def st (a b : EReal) (re im : Fin 128 → EReal) (re0 im0 : EReal) : ℕ → EReal × EReal
  | 0 => (re0, im0)
  | k + 1 =>
    let s := st a b re im re0 im0 k
    if h : k < 128 then (a * s.1 - b * s.2 + re ⟨k, h⟩, a * s.2 + b * s.1 + im ⟨k, h⟩) else s

theorem pay2_at (a x : FVec Ideal S1x128 .f32) (s t : FVec Ideal S4x128 .f32) (r : Vec Ideal S1x4x128 .f32) (n : Fin 4) (q : Fin 128) :
    k0_pay2 (F := Ideal) a x s t r (ix2 n q) = a (ix2 0 q) * s (ix2 n q) + x (ix2 0 q) * t (ix2 n q) + r (ix3 0 n q) := by
  pointwise [k0_pay2]

theorem pay3_at (a x : FVec Ideal S1x128 .f32) (s t : FVec Ideal S4x128 .f32) (r : Vec Ideal S1x4x128 .f32) (n : Fin 4) (q : Fin 128) :
    k0_pay3 (F := Ideal) a x s t r (ix2 n q) = a (ix2 0 q) * t (ix2 n q) - x (ix2 0 q) * s (ix2 n q) + r (ix3 0 n q) := by
  pointwise [k0_pay3]

theorem pay19_at (u : Vec Ideal S1x544x256 .bf16) (w : Vec Ideal S1x256x128 .bf16) (r : Fin 544) (q : Fin 128) :
    k0_pay19 (F := Ideal) u w (ix2 r q) = ∑ k : Fin 256, u (ix3 0 r k) * w (ix3 0 k q) := by
  pointwise [k0_pay19]

theorem pay25_at (u : Vec Ideal S1x544x256 .bf16) (w : Vec Ideal S1x256x128 .bf16) (r : Fin 544) :
    (∀ p, k0_pay25 (F := Ideal) u w (ix2 r (lo p)) = k0_pay19 (F := Ideal) u w (ix2 r (hi p)))
    ∧ ∀ p, k0_pay25 (F := Ideal) u w (ix2 r (hi p)) = k0_pay19 (F := Ideal) u w (ix2 r (lo p)) := by
  constructor
  · intro p
    pointwise [k0_pay25, k0_pay19]
    refine Finset.sum_congr rfl fun k _ => congrArg (fun z => u (ix3 0 r k) * w (ix3 0 k z)) (Fin.ext ?_)
    show (p.val + 128 - 64) % 128 = 64 + p.val
    omega
  · intro p
    pointwise [k0_pay25, k0_pay19]
    refine Finset.sum_congr rfl fun k _ => congrArg (fun z => u (ix3 0 r k) * w (ix3 0 k z)) (Fin.ext ?_)
    show (64 + p.val + 128 - 64) % 128 = p.val
    omega

theorem pay132_at (a : Vec Ideal S1x1x128 .f32) (q : Fin 128) : k0_pay132 (F := Ideal) a (ix2 0 q) = a (ix3 0 0 q) := by
  pointwise [k0_pay132]

theorem pay144_at (a : Vec Ideal S1x1x128 .f32) (n : Fin 4) (q : Fin 128) : k0_pay144 (F := Ideal) a (ix2 n q) = a (ix3 0 0 q) := by
  pointwise [k0_pay144]

theorem pay159_at (s : FVec Ideal S4x128 .f32) (n : Fin 4) (q : Fin 128) : k0_pay159 (F := Ideal) s (ix3 0 n q) = s (ix2 n q) := by
  pointwise [k0_pay159]

theorem states_at (r r' : Fin 8 → Fin k0_t1_loop.trips → Vec Ideal S1x4x128 .f32) (A X : Fin 8 → FVec Ideal S1x128 .f32) (P : Fin 8 → Pair Ideal)
    (g : Fin 8) (n : Fin 4) (p : Fin 64) (a b : EReal) (re im : Fin 128 → EReal) (re0 im0 : EReal)
    (hal : A g (ix2 0 (lo p)) = a) (hah : A g (ix2 0 (hi p)) = a) (hbl : X g (ix2 0 (lo p)) = -b) (hbh : X g (ix2 0 (hi p)) = b)
    (h0l : (P g).1 (ix2 n (lo p)) = re0) (h0h : (P g).1 (ix2 n (hi p)) = im0) (h0l' : (P g).2 (ix2 n (lo p)) = im0) (h0h' : (P g).2 (ix2 n (hi p)) = re0)
    (hrl : ∀ k : Fin k0_t1_loop.trips, r g k (ix3 0 n (lo p)) = re k) (hrh : ∀ k : Fin k0_t1_loop.trips, r g k (ix3 0 n (hi p)) = im k)
    (hrl' : ∀ k : Fin k0_t1_loop.trips, r' g k (ix3 0 n (lo p)) = im k) (hrh' : ∀ k : Fin k0_t1_loop.trips, r' g k (ix3 0 n (hi p)) = re k) :
    ∀ k : ℕ, (states r r' A X P k g).1 (ix2 n (lo p)) = (st a b re im re0 im0 k).1
      ∧ (states r r' A X P k g).1 (ix2 n (hi p)) = (st a b re im re0 im0 k).2
      ∧ (states r r' A X P k g).2 (ix2 n (lo p)) = (st a b re im re0 im0 k).2
      ∧ (states r r' A X P k g).2 (ix2 n (hi p)) = (st a b re im re0 im0 k).1
  | 0 => ⟨h0l, h0h, h0l', h0h'⟩
  | k + 1 => by
    obtain ⟨i1, i2, i3, i4⟩ := states_at r r' A X P g n p a b re im re0 im0 hal hah hbl hbh h0l h0h h0l' h0h' hrl hrh hrl' hrh' k
    unfold states st
    by_cases h : k < k0_t1_loop.trips
    · have h' : k < 128 := h
      rw [dif_pos h]
      simp only [dif_pos h']
      unfold stepPair
      dsimp only
      refine ⟨?_, ?_, ?_, ?_⟩
      · rw [pay2_at, hal, hbl, i1, i3, hrl ⟨k, h⟩, EReal.neg_mul, ← sub_eq_add_neg]
        rfl
      · rw [pay2_at, hah, hbh, i2, i4, hrh ⟨k, h⟩]
        rfl
      · rw [pay3_at, hal, hbl, i1, i3, hrl' ⟨k, h⟩, EReal.neg_mul, sub_eq_add_neg, neg_neg]
        rfl
      · rw [pay3_at, hah, hbh, i2, i4, hrh' ⟨k, h⟩]
        rfl
    · have h' : ¬ k < 128 := h
      rw [dif_neg h]
      simp only [dif_neg h']
      exact ⟨i1, i2, i3, i4⟩

/-! ## One group: its data as functions of the indices, and the payloads -/

/-- Row `k` of sequence `n`. -/
def seqRow (n : Fin 4) (k : Fin 128) : Fin 544 := ⟨128 * n.val + k.val, by omega⟩

/-- The state of sequence `n` in lane `q` before chunk `k`, from the rows `X` that the chunks bring and the multipliers. -/
def stateAt (X : Fin 544 → Fin 128 → EReal) (a b : Fin 64 → EReal) (n : Fin 4) (k : ℕ) (q : Fin 128) : EReal :=
  if h : q.val < 64 then
    (st (a ⟨q.val, h⟩) (b ⟨q.val, h⟩) (fun k => X (seqRow n k) (lo ⟨q.val, h⟩)) (fun k => X (seqRow n k) (hi ⟨q.val, h⟩)) (X ⟨512, by omega⟩ (lo ⟨q.val, h⟩)) (X ⟨512, by omega⟩ (hi ⟨q.val, h⟩)) k).1
  else
    (st (a ⟨q.val - 64, by omega⟩) (b ⟨q.val - 64, by omega⟩) (fun k => X (seqRow n k) (lo ⟨q.val - 64, by omega⟩)) (fun k => X (seqRow n k) (hi ⟨q.val - 64, by omega⟩))
      (X ⟨512, by omega⟩ (lo ⟨q.val - 64, by omega⟩)) (X ⟨512, by omega⟩ (hi ⟨q.val - 64, by omega⟩)) k).2

theorem stateAt_lo (X : Fin 544 → Fin 128 → EReal) (a b : Fin 64 → EReal) (n : Fin 4) (k : ℕ) (p : Fin 64) :
    stateAt X a b n k (lo p) = (st (a p) (b p) (fun k => X (seqRow n k) (lo p)) (fun k => X (seqRow n k) (hi p)) (X ⟨512, by omega⟩ (lo p)) (X ⟨512, by omega⟩ (hi p)) k).1 := by
  unfold stateAt
  rw [dif_pos (show (lo p).val < 64 from p.isLt)]
  rfl

theorem stateAt_hi (X : Fin 544 → Fin 128 → EReal) (a b : Fin 64 → EReal) (n : Fin 4) (k : ℕ) (p : Fin 64) :
    stateAt X a b n k (hi p) = (st (a p) (b p) (fun k => X (seqRow n k) (lo p)) (fun k => X (seqRow n k) (hi p)) (X ⟨512, by omega⟩ (lo p)) (X ⟨512, by omega⟩ (hi p)) k).2 := by
  have e : ∀ h, (⟨(hi p).val - 64, h⟩ : Fin 64) = p := fun h => Fin.ext (show 64 + p.val - 64 = p.val by omega)
  unfold stateAt
  rw [dif_neg (show ¬ (hi p).val < 64 by show ¬ 64 + p.val < 64; omega)]
  simp only [e]

/-- The rows the chunks bring. -/
def brings (u : Fin 544 → Fin 256 → EReal) (w : Fin 256 → Fin 128 → EReal) (r : Fin 544) (q : Fin 128) : EReal := ∑ k, u r k * w k q

/-- The state before the chunk of row `r`; nothing in the rows after the last sequence. -/
def before (X : Fin 544 → Fin 128 → EReal) (a b : Fin 64 → EReal) (r : Fin 544) (q : Fin 128) : EReal :=
  if h : r.val < 512 then stateAt X a b ⟨r.val / 128, by omega⟩ (r.val % 128) q else 0

/-- One output. -/
def yAt (u : Fin 544 → Fin 256 → EReal) (m : Fin 256 → Fin 256 → EReal) (w : Fin 256 → Fin 128 → EReal) (c : Fin 256 → Fin 128 → EReal) (a b : Fin 64 → EReal)
    (r : Fin 544) (q : Fin 256) : EReal :=
  ∑ k, u r k * m k q + ∑ k, before (brings u w) a b r k * c q k

theorem pay160_at (h0 h1 h2 h3 : Vec Ideal S1x128x128 .f32) (u : Vec Ideal S1x544x256 .bf16) (w : Vec Ideal S1x256x256 .bf16) (c : Vec Ideal S1x256x128 .bf16)
    (H : Fin 544 → Fin 128 → EReal)
    (e0 : ∀ k q, h0 (ix3 0 k q) = H (seqRow 0 k) q) (e1 : ∀ k q, h1 (ix3 0 k q) = H (seqRow 1 k) q) (e2 : ∀ k q, h2 (ix3 0 k q) = H (seqRow 2 k) q) (e3 : ∀ k q, h3 (ix3 0 k q) = H (seqRow 3 k) q)
    (e4 : ∀ r q, 512 ≤ r.val → H r q = 0) (r : Fin 544) (q : Fin 256) :
    k0_pay160 (F := Ideal) h0 h1 h2 h3 u w c (ix3 0 r q) = ∑ k, u (ix3 0 r k) * w (ix3 0 k q) + ∑ k, H r k * c (ix3 0 q k) := by
  pointwise [k0_pay160]
  congr 1
  refine Finset.sum_congr rfl fun x _ => ?_
  congr 1
  have hr := r.isLt
  by_cases g0 : r.val < 128
  · rw [dif_pos g0, e0]; exact congrArg (fun z => H z x) (Fin.ext (show 128 * 0 + r.val = r.val by omega))
  rw [dif_neg g0]
  by_cases g1 : r.val - 128 < 128
  · rw [dif_pos g1, e1]; exact congrArg (fun z => H z x) (Fin.ext (show 128 * 1 + (r.val - 128) = r.val by omega))
  rw [dif_neg g1]
  by_cases g2 : r.val - 128 - 128 < 128
  · rw [dif_pos g2, e2]; exact congrArg (fun z => H z x) (Fin.ext (show 128 * 2 + (r.val - 128 - 128) = r.val by omega))
  rw [dif_neg g2]
  by_cases g3 : r.val - 128 - 128 - 128 < 128
  · rw [dif_pos g3, e3]; exact congrArg (fun z => H z x) (Fin.ext (show 128 * 3 + (r.val - 128 - 128 - 128) = r.val by omega))
  rw [dif_neg g3]
  exact (e4 r x (by omega)).symm

/-- The states after one step: multiplied by `a + b i`, the step's input added. -/
def nextAt (a b : Fin 64 → EReal) (s t : Fin 64 → EReal) (d : Fin 128 → EReal) (q : Fin 128) : EReal :=
  if h : q.val < 64 then a ⟨q.val, h⟩ * s ⟨q.val, h⟩ - b ⟨q.val, h⟩ * t ⟨q.val, h⟩ + d q
  else a ⟨q.val - 64, by omega⟩ * t ⟨q.val - 64, by omega⟩ + b ⟨q.val - 64, by omega⟩ * s ⟨q.val - 64, by omega⟩ + d q

theorem nextAt_lo (a b s t : Fin 64 → EReal) (d : Fin 128 → EReal) (p : Fin 64) : nextAt a b s t d (lo p) = a p * s p - b p * t p + d (lo p) := by
  unfold nextAt
  rw [dif_pos (show (lo p).val < 64 from p.isLt)]
  rfl

theorem nextAt_hi (a b s t : Fin 64 → EReal) (d : Fin 128 → EReal) (p : Fin 64) : nextAt a b s t d (hi p) = a p * t p + b p * s p + d (hi p) := by
  have e : ∀ h, (⟨(hi p).val - 64, h⟩ : Fin 64) = p := fun h => Fin.ext (show 64 + p.val - 64 = p.val by omega)
  unfold nextAt
  rw [dif_neg (show ¬ (hi p).val < 64 by show ¬ 64 + p.val < 64; omega)]
  simp only [e]

theorem pay161_at (u : FVec Ideal S128x128 .bf16) (s t : Vec Ideal S128x64 .f32) (v x : Vec Ideal S1x1x128 .f32) (c : Vec Ideal S1x128x128 .bf16) (a b : Fin 64 → EReal)
    (hal : ∀ p, v (ix3 0 0 (lo p)) = a p) (hah : ∀ p, v (ix3 0 0 (hi p)) = a p) (hbl : ∀ p, x (ix3 0 0 (lo p)) = -b p) (hbh : ∀ p, x (ix3 0 0 (hi p)) = b p)
    (r : Fin 128) (q : Fin 128) :
    k0_pay161 (F := Ideal) u s t v x c (ix2 r q)
      = nextAt a b (fun p => s (ix2 r p)) (fun p => t (ix2 r p)) (fun q => ∑ k, u (ix2 r k) * c (ix3 0 k q)) q := by
  pointwise [k0_pay161]
  rcases lo_or_hi q with ⟨p, rfl⟩ | ⟨p, rfl⟩
  · have e : ∀ h, (⟨((lo p).val + 128 - 64) % 128 - 64, h⟩ : Fin 64) = p := fun h => Fin.ext (show (p.val + 128 - 64) % 128 - 64 = p.val by omega)
    rw [nextAt_lo, hal, hbl, dif_pos (show (lo p).val < 64 from p.isLt), dif_neg (show ¬ ((lo p).val + 128 - 64) % 128 < 64 by show ¬ (p.val + 128 - 64) % 128 < 64; omega), e,
      EReal.neg_mul, ← sub_eq_add_neg]
    rfl
  · have e : ∀ h, (⟨(hi p).val - 64, h⟩ : Fin 64) = p := fun h => Fin.ext (show 64 + p.val - 64 = p.val by omega)
    have e' : ∀ h, (⟨((hi p).val + 128 - 64) % 128, h⟩ : Fin 64) = p := fun h => Fin.ext (show (64 + p.val + 128 - 64) % 128 = p.val by omega)
    rw [nextAt_hi, hah, hbh, dif_neg (show ¬ (hi p).val < 64 by show ¬ 64 + p.val < 64; omega), dif_pos (show ((hi p).val + 128 - 64) % 128 < 64 by show (64 + p.val + 128 - 64) % 128 < 64; omega), e, e']

theorem pay162_at (u : FVec Ideal S128x128 .bf16) (s t : Vec Ideal S128x64 .f32) (a x : Vec Ideal S1x1x128 .f32) (b : Vec Ideal S1x128x128 .bf16) (r : Fin 128) (p : Fin 64) :
    k0_pay162 (F := Ideal) u s t a x b (ix2 r p) = k0_pay161 (F := Ideal) u s t a x b (ix2 r (lo p)) := by
  pointwise [k0_pay162]
  rfl

theorem pay163_at (u : FVec Ideal S128x128 .bf16) (s t : Vec Ideal S128x64 .f32) (a x : Vec Ideal S1x1x128 .f32) (b : Vec Ideal S1x128x128 .bf16) (r : Fin 128) (p : Fin 64) :
    k0_pay163 (F := Ideal) u s t a x b (ix2 r p) = k0_pay161 (F := Ideal) u s t a x b (ix2 r (hi p)) := by
  pointwise [k0_pay163]
  rfl

theorem pay164_at (u : FVec Ideal S128x128 .bf16) (acc : FVec Ideal S128x128 .f32) (s t : Vec Ideal S128x64 .f32) (a x : Vec Ideal S1x1x128 .f32) (b c : Vec Ideal S1x128x128 .bf16) (r : Fin 128) (q : Fin 128) :
    k0_pay164 (F := Ideal) u acc s t a x b c (ix2 r q) = acc (ix2 r q) + ∑ k : Fin 128, k0_pay161 (F := Ideal) u s t a x b (ix2 r k) * c (ix3 0 q k) := by
  pointwise [k0_pay164]

/-! ## One group of a grid point's blocks -/

section Block

variable (x1 : Vec Ideal S8x544x256 .bf16) (x2 : Vec Ideal S256x128 .f32) (x3 : Vec Ideal S8x256x256 .bf16) (x4 x5 : Vec Ideal S8x256x128 .bf16)
  (x6 x7 : Vec Ideal S8x128x128 .bf16) (x8 : Vec Ideal S8x4x128 .f32) (x9 x10 : Vec Ideal S128x512 .f32) (g : Fin 8)

theorem inUc_at (r : Fin 544) (k : Fin 256) : inUc x1 g (ix3 0 r k) = x1 (ix3 g r k) := by
  unfold inUc; pointwise; blk_ext []

theorem inM_at (r k : Fin 256) : inM x3 g (ix3 0 r k) = x3 (ix3 g r k) := by
  unfold inM; pointwise; blk_ext []

theorem inW_at (r : Fin 256) (k : Fin 128) : inW x4 g (ix3 0 r k) = x4 (ix3 g r k) := by
  unfold inW; pointwise; blk_ext []

theorem inB_at (r k : Fin 128) : inB x6 g (ix3 0 r k) = x6 (ix3 g r k) := by
  unfold inB; pointwise; blk_ext []

theorem inA_at (r : Fin 4) (q : Fin 128) : inA x8 r g (ix3 0 0 q) = x8 (ix3 g r q) := by
  unfold inA; pointwise; blk_ext []

theorem inS_at (r : Fin 128) (p : Fin 64) : inS x9 g (ix2 r p) = x9 (ix2 r ⟨64 * g.val + p.val, by omega⟩) := by
  unfold inS; pointwise; blk_ext []

theorem inU_at (r k : Fin 128) : inU x2 (ix2 r k) = x2 (ix2 ⟨16 + r.val, by omega⟩ k) := by
  unfold inU; pointwise; blk_ext []

/-- The rows the chunks bring to group `g`. -/
abbrev bring : Fin 544 → Fin 128 → EReal := brings (fun r k => x1 (ix3 g r k)) (fun k q => x4 (ix3 g k q))

theorem adds_at (r : Fin 544) (q : Fin 128) : adds x1 x4 g (ix2 r q) = bring x1 x4 g r q := by
  unfold adds bring brings
  rw [pay19_at]
  exact Finset.sum_congr rfl fun k _ => by rw [inUc_at, inW_at]

theorem swapped_lo (r : Fin 544) (p : Fin 64) : swapped x1 x4 g (ix2 r (lo p)) = bring x1 x4 g r (hi p) :=
  ((pay25_at _ _ r).1 p).trans (adds_at x1 x4 g r (hi p))

theorem swapped_hi (r : Fin 544) (p : Fin 64) : swapped x1 x4 g (ix2 r (hi p)) = bring x1 x4 g r (lo p) :=
  ((pay25_at _ _ r).2 p).trans (adds_at x1 x4 g r (lo p))

/-- Rows `i` and `j` of group `g` are the multipliers `a + b i`, spread over the lanes as the steps use them. -/
def Spread (i j : Fin 4) (a b : Fin 64 → EReal) : Prop :=
  (∀ p, x8 (ix3 g i (lo p)) = a p) ∧ (∀ p, x8 (ix3 g i (hi p)) = a p) ∧ (∀ p, x8 (ix3 g j (lo p)) = -b p) ∧ ∀ p, x8 (ix3 g j (hi p)) = b p

variable (a b : Fin 64 → EReal)

theorem scan_at (h : Spread x8 g 0 1 a b) (k : ℕ) (n : Fin 4) (q : Fin 128) :
    (scan x1 x4 x8 k g).1 (ix2 n q) = stateAt (bring x1 x4 g) a b n k q := by
  have key := fun p => states_at (chunkRows (adds x1 x4)) (chunkRows (swapped x1 x4)) (mults x8 0) (mults x8 1) (start (adds x1 x4) (swapped x1 x4)) g n p (a p) (b p)
    (fun k => bring x1 x4 g (seqRow n k) (lo p)) (fun k => bring x1 x4 g (seqRow n k) (hi p)) (bring x1 x4 g ⟨512, by omega⟩ (lo p)) (bring x1 x4 g ⟨512, by omega⟩ (hi p))
    (by unfold mults; rw [pay132_at, inA_at]; exact h.1 p)
    (by unfold mults; rw [pay132_at, inA_at]; exact h.2.1 p)
    (by unfold mults; rw [pay132_at, inA_at]; exact h.2.2.1 p)
    (by unfold mults; rw [pay132_at, inA_at]; exact h.2.2.2 p)
    (by unfold start; dsimp only; rw [pay144_at]; exact adds_at x1 x4 g _ _)
    (by unfold start; dsimp only; rw [pay144_at]; exact adds_at x1 x4 g _ _)
    (by unfold start; dsimp only; rw [pay144_at]; exact swapped_lo x1 x4 g _ _)
    (by unfold start; dsimp only; rw [pay144_at]; exact swapped_hi x1 x4 g _ _)
    (fun k => adds_at x1 x4 g _ _) (fun k => adds_at x1 x4 g _ _) (fun k => swapped_lo x1 x4 g _ _) (fun k => swapped_hi x1 x4 g _ _) k
  rcases lo_or_hi q with ⟨p, rfl⟩ | ⟨p, rfl⟩
  · rw [stateAt_lo]; exact (key p).1
  · rw [stateAt_hi]; exact (key p).2.1

theorem before_seqRow (X : Fin 544 → Fin 128 → EReal) (n : Fin 4) (k q : Fin 128) : before X a b (seqRow n k) q = stateAt X a b n k.val q := by
  have h1 : (seqRow n k).val / 128 = n.val := by show (128 * n.val + k.val) / 128 = n.val; omega
  have h2 : (seqRow n k).val % 128 = k.val := by show (128 * n.val + k.val) % 128 = k.val; omega
  unfold before
  rw [dif_pos (show (seqRow n k).val < 512 by show 128 * n.val + k.val < 512; omega), h2]
  exact congrArg (fun z => stateAt X a b z k.val q) (Fin.ext h1)

theorem outY_at (h : Spread x8 g 0 1 a b) (r : Fin 544) (q : Fin 256) :
    outY (histSlab (scan x1 x4 x8)) x1 x3 x5 g (ix3 0 r q)
      = yAt (fun r k => x1 (ix3 g r k)) (fun k q => x3 (ix3 g k q)) (fun k q => x4 (ix3 g k q)) (fun q k => x5 (ix3 g q k)) a b r q := by
  have e : ∀ (n : Fin 4) (k q : Fin 128), histSlab (scan x1 x4 x8) g n (ix3 0 k q) = before (bring x1 x4 g) a b (seqRow n k) q := fun n k q =>
    (scan_at x1 x4 x8 g a b h k.val n q).trans (before_seqRow a b _ n k q).symm
  unfold outY yAt
  rw [pay160_at _ _ _ _ _ _ _ (before (bring x1 x4 g) a b) (e 0) (e 1) (e 2) (e 3) (fun r q hr => by unfold before; rw [dif_neg (by omega)])]
  simp only [inUc_at, inM_at, inW_at]

theorem outS_at (h : Spread x8 g 0 1 a b) (n : Fin 4) (q : Fin 128) :
    outS (scan x1 x4 x8 k0_t1_loop.trips) g (ix3 0 n q) = stateAt (bring x1 x4 g) a b n 128 q := by
  unfold outS
  rw [pay159_at]
  exact scan_at x1 x4 x8 g a b h 128 n q

/-- A row's states of group `g` after one step. -/
abbrev stepped (r : Fin 128) : Fin 128 → EReal :=
  nextAt a b (fun p => x9 (ix2 r ⟨64 * g.val + p.val, by omega⟩)) (fun p => x10 (ix2 r ⟨64 * g.val + p.val, by omega⟩))
    (fun q => ∑ k : Fin 128, x2 (ix2 ⟨16 + r.val, by omega⟩ k) * x6 (ix3 g k q))

theorem step_at (h : Spread x8 g 2 3 a b) (r q : Fin 128) :
    k0_pay161 (k0_pay157 (inU x2)) (inS x9 g) (inS x10 g) (inA x8 2 g) (inA x8 3 g) (inB x6 g) (ix2 r q) = stepped x2 x6 x9 x10 g a b r q := by
  have e : ∀ k, k0_pay157 (F := Ideal) (inU x2) (ix2 r k) = x2 (ix2 ⟨16 + r.val, by omega⟩ k) := fun k => by
    pointwise [k0_pay157]
    exact inU_at x2 r k
  rw [pay161_at _ _ _ _ _ _ a b (fun p => (inA_at x8 g 2 _).trans (h.1 p)) (fun p => (inA_at x8 g 2 _).trans (h.2.1 p)) (fun p => (inA_at x8 g 3 _).trans (h.2.2.1 p)) (fun p => (inA_at x8 g 3 _).trans (h.2.2.2 p))]
  simp only [inS_at, inB_at, e]

theorem outRe_at (h : Spread x8 g 2 3 a b) (r : Fin 128) (p : Fin 64) : outRe x2 x6 x8 x9 x10 g (ix2 r p) = stepped x2 x6 x9 x10 g a b r (lo p) := by
  unfold outRe
  rw [pay162_at]
  exact step_at x2 x6 x8 x9 x10 g a b h r (lo p)

theorem outIm_at (h : Spread x8 g 2 3 a b) (r : Fin 128) (p : Fin 64) : outIm x2 x6 x8 x9 x10 g (ix2 r p) = stepped x2 x6 x9 x10 g a b r (hi p) := by
  unfold outIm
  rw [pay163_at]
  exact step_at x2 x6 x8 x9 x10 g a b h r (hi p)

theorem addYs_at (acc : FVec Ideal S128x128 .f32) (h : Spread x8 g 2 3 a b) (r q : Fin 128) :
    addYs x2 x6 x7 x8 x9 x10 acc g (ix2 r q) = acc (ix2 r q) + ∑ k : Fin 128, stepped x2 x6 x9 x10 g a b r k * x7 (ix3 g q k) := by
  unfold addYs
  rw [pay164_at]
  congr 1
  exact Finset.sum_congr rfl fun k _ => by rw [step_at x2 x6 x8 x9 x10 g a b h r k, inB_at]

theorem pay158_at (y : S128x128.Idx) : k0_pay158 (F := Ideal) y = 0 := by
  pointwise [k0_pay158]

theorem outYs_at (A B : Fin 8 → Fin 64 → EReal) (h : ∀ g, Spread x8 g 2 3 (A g) (B g)) (r q : Fin 128) :
    outYs x2 x6 x7 x8 x9 x10 (ix2 r q) = ∑ g : Fin 8, ∑ k : Fin 128, stepped x2 x6 x9 x10 g (A g) (B g) r k * x7 (ix3 g q k) := by
  unfold outYs
  rw [addYs_at x2 x6 x7 x8 x9 x10 7 _ _ _ (h 7), addYs_at x2 x6 x7 x8 x9 x10 6 _ _ _ (h 6), addYs_at x2 x6 x7 x8 x9 x10 5 _ _ _ (h 5), addYs_at x2 x6 x7 x8 x9 x10 4 _ _ _ (h 4),
    addYs_at x2 x6 x7 x8 x9 x10 3 _ _ _ (h 3), addYs_at x2 x6 x7 x8 x9 x10 2 _ _ _ (h 2), addYs_at x2 x6 x7 x8 x9 x10 1 _ _ _ (h 1), addYs_at x2 x6 x7 x8 x9 x10 0 _ _ _ (h 0),
    pay158_at, zero_add, Fin.sum_univ_eight]

end Block

end Cert.Scan

end
-- ==== Proof.ScanBody.lean ====
/- The scan: the body of a grid point run through, from the blocks it reads to the blocks it stores. -/
module

public import proofs.«01_k».proof.Proof.ScanSpec
public import proofs.«01_k».proof.Proof.Gen.KernelIdeal.Frame
public import proofs.«01_k».proof.Proof.Gen.KernelIdeal.Skeleton
public import proofs.«01_k».proof.Proof.Gen.KernelIdeal.Loops
public import Idealize.ShloMosaic.Lib.Claim
public import Idealize.ShloMosaic.Lib.Pipeline.ReadBack
public import Idealize.ShloMosaic.Lib.Pipeline.ValueKit

@[expose] public section

set_option maxRecDepth 16384

noncomputable section

namespace Cert.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! # The body's triple -/

theorem states_congr {r1 r2 r1' r2' : Fin 8 → Fin k0_t1_loop.trips → Vec F S1x4x128 .f32} {a a' x x' : Fin 8 → FVec F S1x128 .f32} {p p' : Fin 8 → Pair F}
    (h1 : r1 = r1') (h2 : r2 = r2') (ha : a = a') (hx : x = x') (hp : p = p') : states r1 r2 a x p = states r1' r2' a' x' p' := by
  subst h1 h2 ha hx hp; rfl

theorem read_whole {c : Dev nD} (b : Memref sig .tc .vmem S128x128 .f32) (f : Buf (Elt F) (b.view.loc (c : Thread nD τ))) (Y : Vec F S128x128 .f32) :
    b.view.read (Elt F) (b.view.writes (Elt F) f [⟨Rect.unit (s := S128x128) ![0, 0] S128x128.size inb_S128x128_S128x128_0_0, Y⟩]) = Y := by
  funext y
  refine View.read_writes_apply_of_pieces b.view f Y _ ?_ y ⟨_, List.mem_singleton.mpr rfl, (LoadRect.mem_set _).mpr fun a => ?_⟩
  · intro q hq x
    obtain rfl := List.mem_singleton.mp hq
    refine congrArg Y (funext fun a => ?_)
    match a with
    | 0 => exact Fin.ext (show (x 0).val = 0 + 1 * (x 0).val by omega)
    | 1 => exact Fin.ext (show (x 1).val = 0 + 1 * (x 1).val by omega)
  · match a with
    | 0 => exact ⟨(y 0).val, (y 0).isLt, by show (y 0).val = 0 + 1 * (y 0).val; omega⟩
    | 1 => exact ⟨(y 1).val, (y 1).isLt, by show (y 1).val = 0 + 1 * (y 1).val; omega⟩

set_option maxHeartbeats 16000000 in
/-- The body at one point: the outputs from the blocks of the inputs, whatever the outputs and the scratch buffers held. -/
theorem body (c : Dev nD) (i : grid0.Coords) (arg1 : Memref sig .tc .vmem S8x544x256 .bf16) (harg1 : arg1.IsWhole) (arg2 : Memref sig .tc .vmem S256x128 .f32) (harg2 : arg2.IsWhole) (arg3 : Memref sig .tc .vmem S8x256x256 .bf16) (harg3 : arg3.IsWhole) (arg4 : Memref sig .tc .vmem S8x256x128 .bf16) (harg4 : arg4.IsWhole) (arg5 : Memref sig .tc .vmem S8x256x128 .bf16) (harg5 : arg5.IsWhole) (arg6 : Memref sig .tc .vmem S8x128x128 .bf16) (harg6 : arg6.IsWhole) (arg7 : Memref sig .tc .vmem S8x128x128 .bf16) (harg7 : arg7.IsWhole) (arg8 : Memref sig .tc .vmem S8x4x128 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S8x544x256 .f32) (harg11 : arg11.IsWhole) (arg12 : Memref sig .tc .vmem S128x128 .f32) (harg12 : arg12.IsWhole) (arg13 : Memref sig .tc .vmem S8x4x128 .f32) (harg13 : arg13.IsWhole) (arg14 : Memref sig .tc .vmem S128x512 .f32) (harg14 : arg14.IsWhole) (arg15 : Memref sig .tc .vmem S128x512 .f32) (harg15 : arg15.IsWhole) (arg16 : Memref sig .tc .vmem S8x552x128 .f32) (harg16 : arg16.IsWhole) (arg17 : Memref sig .tc .vmem S8x552x128 .f32) (harg17 : arg17.IsWhole) (arg18 : Memref sig .tc .vmem S8x552x128 .f32) (harg18 : arg18.IsWhole) (x1 : Vec F S8x544x256 .bf16) (x2 : Vec F S256x128 .f32) (x3 : Vec F S8x256x256 .bf16) (x4 : Vec F S8x256x128 .bf16) (x5 : Vec F S8x256x128 .bf16) (x6 : Vec F S8x128x128 .bf16) (x7 : Vec F S8x128x128 .bf16) (x8 : Vec F S8x4x128 .f32) (x9 : Vec F S128x512 .f32) (x10 : Vec F S128x512 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ ((owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (joinY (outY (histSlab (scan x1 x4 x8)) x1 x3 x5)) ∗ owns (c : Thread nD τ) arg12 fullShare (outYs x2 x6 x7 x8 x9 x10) ∗ owns (c : Thread nD τ) arg13 fullShare (joinS (outS (scan x1 x4 x8 k0_t1_loop.trips))) ∗ owns (c : Thread nD τ) arg14 fullShare (joinC (outRe x2 x6 x8 x9 x10)) ∗ owns (c : Thread nD τ) arg15 fullShare (joinC (outIm x2 x6 x8 x9 x10)) ∗ (∃ d, owns (c : Thread nD τ) arg16 fullShare d) ∗ (∃ d, owns (c : Thread nD τ) arg17 fullShare d) ∗ (∃ d, owns (c : Thread nD τ) arg18 fullShare d)) -∗ K ⟨⟩))
      ⊢ wp frame (wpE (defs₀ (F := F)) Variants.none c none) Set.univ (cc0_ssm_scan i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_ssm_scan_eq_skeleton]; unfold cc0_ssm_scan_skel
  simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
  sl_exec
  irevert H16 H17 H18
  refine loop_wp _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (scan (arg1.view.read (Elt F) (harg1.unread x1)) (arg4.view.read (Elt F) (harg4.unread x4)) (arg8.view.read (Elt F) (harg8.unread x8))) ?_ ?_
  · sl_unfold_words
    refine states_congr (readRows_pieces arg16 f16 (adds (arg1.view.read (Elt F) (harg1.unread x1)) (arg4.view.read (Elt F) (harg4.unread x4)))) (readRows_pieces arg17 f17 (swapped (arg1.view.read (Elt F) (harg1.unread x1)) (arg4.view.read (Elt F) (harg4.unread x4)))) ?_ ?_ ?_
    · funext g
      match g with
      | 0 => rfl
      | 1 => rfl
      | 2 => rfl
      | 3 => rfl
      | 4 => rfl
      | 5 => rfl
      | 6 => rfl
      | 7 => rfl
    · funext g
      match g with
      | 0 => rfl
      | 1 => rfl
      | 2 => rfl
      | 3 => rfl
      | 4 => rfl
      | 5 => rfl
      | 6 => rfl
      | 7 => rfl
    · funext g
      match g with
      | 0 => exact Prod.ext (congrArg k0_pay144 (readCov_pieces arg16 (adds (arg1.view.read (Elt F) (harg1.unread x1)) (arg4.view.read (Elt F) (harg4.unread x4))) 0)) (congrArg k0_pay144 (readCov_pieces arg17 (swapped (arg1.view.read (Elt F) (harg1.unread x1)) (arg4.view.read (Elt F) (harg4.unread x4))) 0))
      | 1 => exact Prod.ext (congrArg k0_pay144 (readCov_pieces arg16 (adds (arg1.view.read (Elt F) (harg1.unread x1)) (arg4.view.read (Elt F) (harg4.unread x4))) 1)) (congrArg k0_pay144 (readCov_pieces arg17 (swapped (arg1.view.read (Elt F) (harg1.unread x1)) (arg4.view.read (Elt F) (harg4.unread x4))) 1))
      | 2 => exact Prod.ext (congrArg k0_pay144 (readCov_pieces arg16 (adds (arg1.view.read (Elt F) (harg1.unread x1)) (arg4.view.read (Elt F) (harg4.unread x4))) 2)) (congrArg k0_pay144 (readCov_pieces arg17 (swapped (arg1.view.read (Elt F) (harg1.unread x1)) (arg4.view.read (Elt F) (harg4.unread x4))) 2))
      | 3 => exact Prod.ext (congrArg k0_pay144 (readCov_pieces arg16 (adds (arg1.view.read (Elt F) (harg1.unread x1)) (arg4.view.read (Elt F) (harg4.unread x4))) 3)) (congrArg k0_pay144 (readCov_pieces arg17 (swapped (arg1.view.read (Elt F) (harg1.unread x1)) (arg4.view.read (Elt F) (harg4.unread x4))) 3))
      | 4 => exact Prod.ext (congrArg k0_pay144 (readCov_pieces arg16 (adds (arg1.view.read (Elt F) (harg1.unread x1)) (arg4.view.read (Elt F) (harg4.unread x4))) 4)) (congrArg k0_pay144 (readCov_pieces arg17 (swapped (arg1.view.read (Elt F) (harg1.unread x1)) (arg4.view.read (Elt F) (harg4.unread x4))) 4))
      | 5 => exact Prod.ext (congrArg k0_pay144 (readCov_pieces arg16 (adds (arg1.view.read (Elt F) (harg1.unread x1)) (arg4.view.read (Elt F) (harg4.unread x4))) 5)) (congrArg k0_pay144 (readCov_pieces arg17 (swapped (arg1.view.read (Elt F) (harg1.unread x1)) (arg4.view.read (Elt F) (harg4.unread x4))) 5))
      | 6 => exact Prod.ext (congrArg k0_pay144 (readCov_pieces arg16 (adds (arg1.view.read (Elt F) (harg1.unread x1)) (arg4.view.read (Elt F) (harg4.unread x4))) 6)) (congrArg k0_pay144 (readCov_pieces arg17 (swapped (arg1.view.read (Elt F) (harg1.unread x1)) (arg4.view.read (Elt F) (harg4.unread x4))) 6))
      | 7 => exact Prod.ext (congrArg k0_pay144 (readCov_pieces arg16 (adds (arg1.view.read (Elt F) (harg1.unread x1)) (arg4.view.read (Elt F) (harg4.unread x4))) 7)) (congrArg k0_pay144 (readCov_pieces arg17 (swapped (arg1.view.read (Elt F) (harg1.unread x1)) (arg4.view.read (Elt F) (harg4.unread x4))) 7))
  iintro ⟨⟨⟨⟨⟨⟨⟨⟨⟨⟨⟨⟨⟨⟨⟨H1, H2⟩, H3⟩, H4⟩, H5⟩, H6⟩, H7⟩, H8⟩, H9⟩, H10⟩, H11⟩, H12⟩, H13⟩, H14⟩, H15⟩, Hk⟩ %g18 %hg H16 H17 H18
  rw [hf1, hf4, hf8] at hg
  unfold owns
  dsimp only [carry]
  sl_exec
  sl_step
  iapply Hk
  isplitl [H1]
  · iexists _; isplitr
    · ipureintro; exact hf1
    iexact H1
  isplitl [H2]
  · iexists _; isplitr
    · ipureintro; exact hf2
    iexact H2
  isplitl [H3]
  · iexists _; isplitr
    · ipureintro; exact hf3
    iexact H3
  isplitl [H4]
  · iexists _; isplitr
    · ipureintro; exact hf4
    iexact H4
  isplitl [H5]
  · iexists _; isplitr
    · ipureintro; exact hf5
    iexact H5
  isplitl [H6]
  · iexists _; isplitr
    · ipureintro; exact hf6
    iexact H6
  isplitl [H7]
  · iexists _; isplitr
    · ipureintro; exact hf7
    iexact H7
  isplitl [H8]
  · iexists _; isplitr
    · ipureintro; exact hf8
    iexact H8
  isplitl [H9]
  · iexists _; isplitr
    · ipureintro; exact hf9
    iexact H9
  isplitl [H10]
  · iexists _; isplitr
    · ipureintro; exact hf10
    iexact H10
  isplitl [H11]
  · iexists _; isplitr
    · ipureintro
      sl_unfold_words
      refine (read_groupsY arg11 f11 (outY (fun g n => arg18.view.readAt (Elt F) (slabRect g n).toLoadRect g18) (arg1.view.read (Elt F) (harg1.unread x1)) (arg3.view.read (Elt F) (harg3.unread x3)) (arg5.view.read (Elt F) (harg5.unread x5)))).trans ?_
      rw [show (fun g n => arg18.view.readAt (Elt F) (slabRect g n).toLoadRect g18) = histSlab (scan x1 x4 x8) from funext fun g => funext fun n => hg g n, hf1, hf3, hf5]
    iexact H11
  isplitl [H12]
  · iexists _; isplitr
    · ipureintro
      sl_unfold_words
      refine (read_whole arg12 f12 (outYs (arg2.view.read (Elt F) (harg2.unread x2)) (arg6.view.read (Elt F) (harg6.unread x6)) (arg7.view.read (Elt F) (harg7.unread x7)) (arg8.view.read (Elt F) (harg8.unread x8)) (arg9.view.read (Elt F) (harg9.unread x9)) (arg10.view.read (Elt F) (harg10.unread x10)))).trans ?_
      rw [hf2, hf6, hf7, hf8, hf9, hf10]
    iexact H12
  isplitl [H13]
  · iexists _; isplitr
    · ipureintro
      sl_unfold_words
      refine (read_groupsS arg13 f13 (outS ((scan (arg1.view.read (Elt F) (harg1.unread x1)) (arg4.view.read (Elt F) (harg4.unread x4)) (arg8.view.read (Elt F) (harg8.unread x8))) k0_t1_loop.trips))).trans ?_
      rw [hf1, hf4, hf8]
    iexact H13
  isplitl [H14]
  · iexists _; isplitr
    · ipureintro
      sl_unfold_words
      refine (read_groupsC arg14 f14 (outRe (arg2.view.read (Elt F) (harg2.unread x2)) (arg6.view.read (Elt F) (harg6.unread x6)) (arg8.view.read (Elt F) (harg8.unread x8)) (arg9.view.read (Elt F) (harg9.unread x9)) (arg10.view.read (Elt F) (harg10.unread x10)))).trans ?_
      rw [hf2, hf6, hf8, hf9, hf10]
    iexact H14
  isplitl [H15]
  · iexists _; isplitr
    · ipureintro
      sl_unfold_words
      refine (read_groupsC arg15 f15 (outIm (arg2.view.read (Elt F) (harg2.unread x2)) (arg6.view.read (Elt F) (harg6.unread x6)) (arg8.view.read (Elt F) (harg8.unread x8)) (arg9.view.read (Elt F) (harg9.unread x9)) (arg10.view.read (Elt F) (harg10.unread x10)))).trans ?_
      rw [hf2, hf6, hf8, hf9, hf10]
    iexact H15
  isplitl [H16]
  · iexact H16
  isplitl [H17]
  · iexact H17
  iexists (arg18.view.read (Elt F) g18); iexists g18; isplitr
  · ipureintro; rfl
  iexact H18

end Cert.Scan

end
-- ==== Proof.ScanRun.lean ====
/- The scan: the blocks before and after every grid point, the run of the whole call, and its frame. -/
module

public import proofs.«01_k».proof.Proof.ScanBody
public import proofs.«01_k».proof.Proof.Gen.KernelIdeal.Frame
public import proofs.«01_k».proof.Proof.Gen.KernelIdeal.Skeleton
public import proofs.«01_k».proof.Proof.Gen.KernelIdeal.Loops
public import Idealize.ShloMosaic.Lib.Claim
public import Idealize.ShloMosaic.Lib.Pipeline.ReadBack
public import Idealize.ShloMosaic.Lib.Pipeline.ValueKit
public import Idealize.ShloMosaic.Lib.Pipeline.TableIdle

@[expose] public section

set_option maxRecDepth 16384

noncomputable section

namespace Cert.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! # The call's run -/

section Run

variable (m : (ℓ : Loc nD τ sig) → Buf (Elt F) ℓ) (ρ : Dev nD → PrngReg)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => joinY (outY (histSlab (scan (iblk m c 0 t) (iblk m c 3 t) (iblk m c 7 t))) (iblk m c 0 t) (iblk m c 2 t) (iblk m c 4 t))
    | ⟨11, _⟩ => outYs (iblk m c 1 t) (iblk m c 5 t) (iblk m c 6 t) (iblk m c 7 t) (iblk m c 8 t) (iblk m c 9 t)
    | ⟨12, _⟩ => joinS (outS (scan (iblk m c 0 t) (iblk m c 3 t) (iblk m c 7 t) k0_t1_loop.trips))
    | ⟨13, _⟩ => joinC (outRe (iblk m c 1 t) (iblk m c 5 t) (iblk m c 7 t) (iblk m c 8 t) (iblk m c 9 t))
    | ⟨14, _⟩ => joinC (outIm (iblk m c 1 t) (iblk m c 5 t) (iblk m c 7 t) (iblk m c 8 t) (iblk m c 9 t))
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = joinY (outY (histSlab (scan (iblk m c 0 t) (iblk m c 3 t) (iblk m c 7 t))) (iblk m c 0 t) (iblk m c 2 t) (iblk m c 4 t)) := by dsimp only [dats]
theorem after_11 (c : Dev nD) (t : Fin cfg0.N) : (dats m 0 c).after 11 t = outYs (iblk m c 1 t) (iblk m c 5 t) (iblk m c 6 t) (iblk m c 7 t) (iblk m c 8 t) (iblk m c 9 t) := by dsimp only [dats]
theorem after_12 (c : Dev nD) (t : Fin cfg0.N) : (dats m 0 c).after 12 t = joinS (outS (scan (iblk m c 0 t) (iblk m c 3 t) (iblk m c 7 t) k0_t1_loop.trips)) := by dsimp only [dats]
theorem after_13 (c : Dev nD) (t : Fin cfg0.N) : (dats m 0 c).after 13 t = joinC (outRe (iblk m c 1 t) (iblk m c 5 t) (iblk m c 7 t) (iblk m c 8 t) (iblk m c 9 t)) := by dsimp only [dats]
theorem after_14 (c : Dev nD) (t : Fin cfg0.N) : (dats m 0 c).after 14 t = joinC (outIm (iblk m c 1 t) (iblk m c 5 t) (iblk m c 7 t) (iblk m c 8 t) (iblk m c 9 t)) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

def bodyPost (c : Dev nD) (t : Fin cfg0.N) : sProp 𝕄 :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t ∗ (dats m 0 c).leavesExact 13 t ∗ (dats m 0 c).leavesExact 14 t)

theorem wholes (c : Dev nD) (b : Ref sig .tc) : (iprop(∃ d, owns (c : Thread nD τ) (Memref.whole b) fullShare d) : sProp 𝕄) = iprop(∃ f : Buf (Elt F) ((c : Thread nD τ).loc b), ((c : Thread nD τ).loc b) ↦{fullShare} f) :=
  congrArg _ (funext fun d => owns_whole (c : Thread nD τ) b fullShare d)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  unfold Pipeline.ΦA
  rw [scopedRest0_eq, ← wholes c cc0_scratch0, ← wholes c cc0_scratch1, ← wholes c cc0_scratch2]
  have e0 : (dats m 0 c).leavesExact 0 t = owns (c : Thread nD τ) (st0_0 t) fullShare (iblk m c 0 t) := by
    unfold Dat.leavesExact; rw [show cfg0.idle 0 (grid0.coords t) = false from rfl, after_0]
  have e1 : (dats m 0 c).leavesExact 1 t = owns (c : Thread nD τ) (st0_1 t) fullShare (iblk m c 1 t) := by
    unfold Dat.leavesExact; rw [show cfg0.idle 1 (grid0.coords t) = false from rfl, after_1]
  have e2 : (dats m 0 c).leavesExact 2 t = owns (c : Thread nD τ) (st0_2 t) fullShare (iblk m c 2 t) := by
    unfold Dat.leavesExact; rw [show cfg0.idle 2 (grid0.coords t) = false from rfl, after_2]
  have e3 : (dats m 0 c).leavesExact 3 t = owns (c : Thread nD τ) (st0_3 t) fullShare (iblk m c 3 t) := by
    unfold Dat.leavesExact; rw [show cfg0.idle 3 (grid0.coords t) = false from rfl, after_3]
  have e4 : (dats m 0 c).leavesExact 4 t = owns (c : Thread nD τ) (st0_4 t) fullShare (iblk m c 4 t) := by
    unfold Dat.leavesExact; rw [show cfg0.idle 4 (grid0.coords t) = false from rfl, after_4]
  have e5 : (dats m 0 c).leavesExact 5 t = owns (c : Thread nD τ) (st0_5 t) fullShare (iblk m c 5 t) := by
    unfold Dat.leavesExact; rw [show cfg0.idle 5 (grid0.coords t) = false from rfl, after_5]
  have e6 : (dats m 0 c).leavesExact 6 t = owns (c : Thread nD τ) (st0_6 t) fullShare (iblk m c 6 t) := by
    unfold Dat.leavesExact; rw [show cfg0.idle 6 (grid0.coords t) = false from rfl, after_6]
  have e7 : (dats m 0 c).leavesExact 7 t = owns (c : Thread nD τ) (st0_7 t) fullShare (iblk m c 7 t) := by
    unfold Dat.leavesExact; rw [show cfg0.idle 7 (grid0.coords t) = false from rfl, after_7]
  have e8 : (dats m 0 c).leavesExact 8 t = owns (c : Thread nD τ) (st0_8 t) fullShare (iblk m c 8 t) := by
    unfold Dat.leavesExact; rw [show cfg0.idle 8 (grid0.coords t) = false from rfl, after_8]
  have e9 : (dats m 0 c).leavesExact 9 t = owns (c : Thread nD τ) (st0_9 t) fullShare (iblk m c 9 t) := by
    unfold Dat.leavesExact; rw [show cfg0.idle 9 (grid0.coords t) = false from rfl, after_9]
  have e10 : (dats m 0 c).leavesExact 10 t = owns (c : Thread nD τ) (st0_10 t) fullShare (joinY (outY (histSlab (scan (iblk m c 0 t) (iblk m c 3 t) (iblk m c 7 t))) (iblk m c 0 t) (iblk m c 2 t) (iblk m c 4 t))) := by
    unfold Dat.leavesExact; rw [show cfg0.idle 10 (grid0.coords t) = false from rfl, after_10]
  have e11 : (dats m 0 c).leavesExact 11 t = owns (c : Thread nD τ) (st0_11 t) fullShare (outYs (iblk m c 1 t) (iblk m c 5 t) (iblk m c 6 t) (iblk m c 7 t) (iblk m c 8 t) (iblk m c 9 t)) := by
    unfold Dat.leavesExact; rw [show cfg0.idle 11 (grid0.coords t) = false from rfl, after_11]
  have e12 : (dats m 0 c).leavesExact 12 t = owns (c : Thread nD τ) (st0_12 t) fullShare (joinS (outS (scan (iblk m c 0 t) (iblk m c 3 t) (iblk m c 7 t) k0_t1_loop.trips))) := by
    unfold Dat.leavesExact; rw [show cfg0.idle 12 (grid0.coords t) = false from rfl, after_12]
  have e13 : (dats m 0 c).leavesExact 13 t = owns (c : Thread nD τ) (st0_13 t) fullShare (joinC (outRe (iblk m c 1 t) (iblk m c 5 t) (iblk m c 7 t) (iblk m c 8 t) (iblk m c 9 t))) := by
    unfold Dat.leavesExact; rw [show cfg0.idle 13 (grid0.coords t) = false from rfl, after_13]
  have e14 : (dats m 0 c).leavesExact 14 t = owns (c : Thread nD τ) (st0_14 t) fullShare (joinC (outIm (iblk m c 1 t) (iblk m c 5 t) (iblk m c 7 t) (iblk m c 8 t) (iblk m c 9 t))) := by
    unfold Dat.leavesExact; rw [show cfg0.idle 14 (grid0.coords t) = false from rfl, after_14]
  rw [e0, e1, e2, e3, e4, e5, e6, e7, e8, e9, e10, e11, e12, e13, e14]
  iintro ⟨⟨⟨S0, S1, S2⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (body c (grid0.coords t) _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [S0]; · iexact S0
  isplitl [S1]; · iexact S1
  isplitl [S2]; · iexact S2
  iintro ⟨H0, H1, H2, H3, H4, H5, H6, H7, H8, H9, H10, H11, H12, H13, H14, S0, S1, S2⟩
  isplitl [S0 S1 S2 Hr]
  · isplitl [S0 S1 S2]
    · isplitl [S0]; · iexact S0
      isplitl [S1]; · iexact S1
      iexact S2
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

set_option backward.isDefEq.respectTransparency.types false in
/-- The call, launched: every array of the pipeline ends at what the proof data say, every counter at zero. -/
theorem run_main : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run's frame: the arguments unchanged, every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Run

end Cert.Scan

end
-- ==== Proof.ScanArr.lean ====
/- The scan's five result arrays at exact arithmetic, element by element, from the call's arguments. -/
module

public import proofs.«01_k».proof.Proof.ScanMath
public import proofs.«01_k».proof.Proof.ScanRun
public import Idealize.ShloMosaic.Lib.StableHlo.RunRead

@[expose] public section

set_option maxRecDepth 16384

noncomputable section

namespace Cert.Scan

open Cert.KernelIdeal Cert.KernelIdeal.Gen
open Idealize.ShloMosaic Idealize.ShloMosaic.TcCoe Idealize.ShloMosaic.Tactic
open Idealize.SL Idealize.SL.RA Idealize.SL.Sem
open Idealize.ShloMosaic.StableHlo
open Idealize.ShloMosaic.Pipeline (Dat Cfg Window)

/-! ## The results -/

/-- The outputs of the prompt's rows. -/
def valY (A0 : FVec Ideal S64x544x256 .bf16) (A2 : FVec Ideal S64x256x256 .bf16) (A3 A4 : FVec Ideal S64x256x128 .bf16) (A7 A8 : FVec Ideal S64x64 .f32) :
    FVec Ideal S64x544x256 .f32 := fun y =>
  yAt (fun r k => A0 (ix3 (y 0) r k)) (fun k q => A2 (ix3 (y 0) k q)) (fun k q => A3 (ix3 (y 0) k q)) (fun q k => A4 (ix3 (y 0) q k)) (fun p => A7 (ix2 (y 0) p)) (fun p => A8 (ix2 (y 0) p))
    (y 1) (y 2)

/-- The states after the prompts. -/
def valS (A0 : FVec Ideal S64x544x256 .bf16) (A3 : FVec Ideal S64x256x128 .bf16) (A7 A8 : FVec Ideal S64x64 .f32) : FVec Ideal S64x4x128 .f32 := fun y =>
  stateAt (brings (fun r k => A0 (ix3 (y 0) r k)) (fun k q => A3 (ix3 (y 0) k q))) (fun p => A7 (ix2 (y 0) p)) (fun p => A8 (ix2 (y 0) p)) (y 1) 128 (y 2)

/-- The states of group `g` after a decoding step, in row `r`. -/
def steppedAt (A1 : FVec Ideal S8704x1024 .f32) (A5 : FVec Ideal S64x128x128 .bf16) (A9 A10 : FVec Ideal S64x64 .f32) (A11 A12 : FVec Ideal S128x4096 .f32)
    (g : Fin 64) (r : Fin 128) : Fin 128 → EReal :=
  nextAt (fun p => A9 (ix2 g p)) (fun p => A10 (ix2 g p)) (fun p => A11 (ix2 r ⟨64 * g.val + p.val, by omega⟩)) (fun p => A12 (ix2 r ⟨64 * g.val + p.val, by omega⟩))
    (fun q => ∑ k : Fin 128, A1 (ix2 ⟨8208 + r.val, by omega⟩ ⟨128 * (g.val / 8) + k.val, by omega⟩) * A5 (ix3 g k q))

/-- The real parts of those states. -/
def valRe (A1 : FVec Ideal S8704x1024 .f32) (A5 : FVec Ideal S64x128x128 .bf16) (A9 A10 : FVec Ideal S64x64 .f32) (A11 A12 : FVec Ideal S128x4096 .f32) :
    FVec Ideal S128x4096 .f32 := fun y =>
  steppedAt A1 A5 A9 A10 A11 A12 ⟨(y 1).val / 64, by have : (y 1).val < 4096 := (y 1).isLt; omega⟩ (y 0) (lo ⟨(y 1).val % 64, by omega⟩)

/-- Their imaginary parts. -/
def valIm (A1 : FVec Ideal S8704x1024 .f32) (A5 : FVec Ideal S64x128x128 .bf16) (A9 A10 : FVec Ideal S64x64 .f32) (A11 A12 : FVec Ideal S128x4096 .f32) :
    FVec Ideal S128x4096 .f32 := fun y =>
  steppedAt A1 A5 A9 A10 A11 A12 ⟨(y 1).val / 64, by have : (y 1).val < 4096 := (y 1).isLt; omega⟩ (y 0) (hi ⟨(y 1).val % 64, by omega⟩)

/-- The outputs of the decoding step: over the eight groups of a block and their states. -/
def valYs (A1 : FVec Ideal S8704x1024 .f32) (A5 A6 : FVec Ideal S64x128x128 .bf16) (A9 A10 : FVec Ideal S64x64 .f32) (A11 A12 : FVec Ideal S128x4096 .f32) :
    FVec Ideal S128x1024 .f32 := fun y =>
  ∑ j : Fin 8, ∑ k : Fin 128,
    steppedAt A1 A5 A9 A10 A11 A12 ⟨8 * ((y 1).val / 128) + j.val, by have : (y 1).val < 1024 := (y 1).isLt; omega⟩ (y 0) k
      * A6 (ix3 ⟨8 * ((y 1).val / 128) + j.val, by have : (y 1).val < 1024 := (y 1).isLt; omega⟩ ⟨(y 1).val % 128, by omega⟩ k)

/-! ## The multipliers' rows -/

/-- The array of the multipliers' rows, as the host makes it. -/
def multRows (A7 A8 A9 A10 : FVec Ideal S64x64 .f32) : FVec Ideal S64x4x128 .f32 :=
  concatenate S64x4x128 1
    [⟨S64x1x128, broadcastInDim S64x1x128 ![0, 2] bcast_S64x128_S64x1x128_0_2 (concatenate S64x128 1 [⟨S64x64, A7⟩, ⟨S64x64, A7⟩] concatenates_S64x64_S64x64_S64x128_d1)⟩,
      ⟨S64x1x128, broadcastInDim S64x1x128 ![0, 2] bcast_S64x128_S64x1x128_0_2 (concatenate S64x128 1 [⟨S64x64, Host.negf A8⟩, ⟨S64x64, A8⟩] concatenates_S64x64_S64x64_S64x128_d1)⟩,
      ⟨S64x1x128, broadcastInDim S64x1x128 ![0, 2] bcast_S64x128_S64x1x128_0_2 (concatenate S64x128 1 [⟨S64x64, A9⟩, ⟨S64x64, A9⟩] concatenates_S64x64_S64x64_S64x128_d1)⟩,
      ⟨S64x1x128, broadcastInDim S64x1x128 ![0, 2] bcast_S64x128_S64x1x128_0_2 (concatenate S64x128 1 [⟨S64x64, Host.negf A10⟩, ⟨S64x64, A10⟩] concatenates_S64x64_S64x64_S64x128_d1)⟩]
    concatenates_S64x1x128_S64x1x128_S64x1x128_S64x1x128_S64x4x128_d1

variable (m : (ℓ : Loc nD τ sig) → Buf (Elt Ideal) ℓ) (ρ : Dev nD → PrngReg)

theorem V_main_v10 (c : Dev nD) : V m c main_v10 = multRows (m ((c.tc : Thread nD τ).loc main_arg7)) (m ((c.tc : Thread nD τ).loc main_arg8)) (m ((c.tc : Thread nD τ).loc main_arg9)) (m ((c.tc : Thread nD τ).loc main_arg10)) := by
  unfold multRows
  simp only [V, hostOps0]
  after_results
  rfl

theorem multRows_at (A7 A8 A9 A10 : FVec Ideal S64x64 .f32) (g : Fin 64) (p : Fin 64) :
    (multRows A7 A8 A9 A10 (ix3 g 0 (lo p)) = A7 (ix2 g p) ∧ multRows A7 A8 A9 A10 (ix3 g 0 (hi p)) = A7 (ix2 g p)
      ∧ multRows A7 A8 A9 A10 (ix3 g 1 (lo p)) = -A8 (ix2 g p) ∧ multRows A7 A8 A9 A10 (ix3 g 1 (hi p)) = A8 (ix2 g p))
    ∧ multRows A7 A8 A9 A10 (ix3 g 2 (lo p)) = A9 (ix2 g p) ∧ multRows A7 A8 A9 A10 (ix3 g 2 (hi p)) = A9 (ix2 g p)
      ∧ multRows A7 A8 A9 A10 (ix3 g 3 (lo p)) = -A10 (ix2 g p) ∧ multRows A7 A8 A9 A10 (ix3 g 3 (hi p)) = A10 (ix2 g p) := by
  have below : (lo p).val < 64 := p.isLt
  have above : ¬ (hi p).val < 64 := by show ¬ 64 + p.val < 64; omega
  have e : (⟨(hi p).val - 64, by have := (hi p).isLt; omega⟩ : Fin 64) = p := Fin.ext (show 64 + p.val - 64 = p.val by omega)
  refine ⟨⟨?_, ?_, ?_, ?_⟩, ?_, ?_, ?_, ?_⟩
  all_goals
    pointwise [multRows]
    first
      | rw [dif_pos below]; rfl
      | rw [dif_neg above, e]

theorem index0 : ∀ t : Fin cfg0.N, (cfg0.win 0).index t = ![t.val, 0, 0] := by decide +kernel
theorem index1 : ∀ t : Fin cfg0.N, (cfg0.win 1).index t = ![32, t.val] := by decide +kernel
theorem index2 : ∀ t : Fin cfg0.N, (cfg0.win 2).index t = ![t.val, 0, 0] := by decide +kernel
theorem index3 : ∀ t : Fin cfg0.N, (cfg0.win 3).index t = ![t.val, 0, 0] := by decide +kernel
theorem index4 : ∀ t : Fin cfg0.N, (cfg0.win 4).index t = ![t.val, 0, 0] := by decide +kernel
theorem index5 : ∀ t : Fin cfg0.N, (cfg0.win 5).index t = ![t.val, 0, 0] := by decide +kernel
theorem index6 : ∀ t : Fin cfg0.N, (cfg0.win 6).index t = ![t.val, 0, 0] := by decide +kernel
theorem index7 : ∀ t : Fin cfg0.N, (cfg0.win 7).index t = ![t.val, 0, 0] := by decide +kernel
theorem index8 : ∀ t : Fin cfg0.N, (cfg0.win 8).index t = ![0, t.val] := by decide +kernel
theorem index9 : ∀ t : Fin cfg0.N, (cfg0.win 9).index t = ![0, t.val] := by decide +kernel
theorem index10 : ∀ t : Fin cfg0.N, (cfg0.win 10).index t = ![t.val, 0, 0] := by decide +kernel
theorem index11 : ∀ t : Fin cfg0.N, (cfg0.win 11).index t = ![0, t.val] := by decide +kernel
theorem index12 : ∀ t : Fin cfg0.N, (cfg0.win 12).index t = ![t.val, 0, 0] := by decide +kernel
theorem index13 : ∀ t : Fin cfg0.N, (cfg0.win 13).index t = ![0, t.val] := by decide +kernel
theorem index14 : ∀ t : Fin cfg0.N, (cfg0.win 14).index t = ![0, t.val] := by decide +kernel

/-- Group `j` of grid point `t`. -/
def grp (t : Fin cfg0.N) (j : Fin 8) : Fin 64 := ⟨8 * t.val + j.val, by have : t.val < 8 := t.isLt; omega⟩

theorem blk0 (c : Dev nD) (t : Fin cfg0.N) (g : Fin 8) (r : Fin 544) (k : Fin 256) : (iblk m c 0 t : Vec Ideal S8x544x256 .bf16) (ix3 g r k) = m ((c.tc : Thread nD τ).loc main_arg0) (ix3 (grp t g) r k) := by
  rw [← V_main_arg0 m c]
  unfold grp
  blk_ext [iblk, index0 t]

theorem blk1 (c : Dev nD) (t : Fin cfg0.N) (r : Fin 256) (k : Fin 128) : (iblk m c 1 t : Vec Ideal S256x128 .f32) (ix2 r k)
    = m ((c.tc : Thread nD τ).loc main_arg1) (ix2 ⟨8192 + r.val, by omega⟩ ⟨128 * t.val + k.val, by have : t.val < 8 := t.isLt; omega⟩) := by
  rw [← V_main_arg1 m c]
  blk_ext [iblk, index1 t]

theorem blk2 (c : Dev nD) (t : Fin cfg0.N) (g : Fin 8) (r k : Fin 256) : (iblk m c 2 t : Vec Ideal S8x256x256 .bf16) (ix3 g r k) = m ((c.tc : Thread nD τ).loc main_arg2) (ix3 (grp t g) r k) := by
  rw [← V_main_arg2 m c]
  unfold grp
  blk_ext [iblk, index2 t]

theorem blk3 (c : Dev nD) (t : Fin cfg0.N) (g : Fin 8) (r : Fin 256) (k : Fin 128) : (iblk m c 3 t : Vec Ideal S8x256x128 .bf16) (ix3 g r k) = m ((c.tc : Thread nD τ).loc main_arg3) (ix3 (grp t g) r k) := by
  rw [← V_main_arg3 m c]
  unfold grp
  blk_ext [iblk, index3 t]

theorem blk4 (c : Dev nD) (t : Fin cfg0.N) (g : Fin 8) (r : Fin 256) (k : Fin 128) : (iblk m c 4 t : Vec Ideal S8x256x128 .bf16) (ix3 g r k) = m ((c.tc : Thread nD τ).loc main_arg4) (ix3 (grp t g) r k) := by
  rw [← V_main_arg4 m c]
  unfold grp
  blk_ext [iblk, index4 t]

theorem blk5 (c : Dev nD) (t : Fin cfg0.N) (g : Fin 8) (r k : Fin 128) : (iblk m c 5 t : Vec Ideal S8x128x128 .bf16) (ix3 g r k) = m ((c.tc : Thread nD τ).loc main_arg5) (ix3 (grp t g) r k) := by
  rw [← V_main_arg5 m c]
  unfold grp
  blk_ext [iblk, index5 t]

theorem blk6 (c : Dev nD) (t : Fin cfg0.N) (g : Fin 8) (r k : Fin 128) : (iblk m c 6 t : Vec Ideal S8x128x128 .bf16) (ix3 g r k) = m ((c.tc : Thread nD τ).loc main_arg6) (ix3 (grp t g) r k) := by
  rw [← V_main_arg6 m c]
  unfold grp
  blk_ext [iblk, index6 t]

theorem blk7 (c : Dev nD) (t : Fin cfg0.N) (g : Fin 8) (i : Fin 4) (q : Fin 128) : (iblk m c 7 t : Vec Ideal S8x4x128 .f32) (ix3 g i q) = V m c main_v10 (ix3 (grp t g) i q) := by
  unfold grp
  blk_ext [iblk, index7 t]

theorem blk8 (c : Dev nD) (t : Fin cfg0.N) (g : Fin 8) (r : Fin 128) (p : Fin 64) : (iblk m c 8 t : Vec Ideal S128x512 .f32) (ix2 r ⟨64 * g.val + p.val, by omega⟩)
    = m ((c.tc : Thread nD τ).loc main_arg11) (ix2 r ⟨64 * (grp t g).val + p.val, by omega⟩) := by
  rw [← V_main_arg11 m c]
  unfold grp
  blk_ext [iblk, index8 t]

theorem blk9 (c : Dev nD) (t : Fin cfg0.N) (g : Fin 8) (r : Fin 128) (p : Fin 64) : (iblk m c 9 t : Vec Ideal S128x512 .f32) (ix2 r ⟨64 * g.val + p.val, by omega⟩)
    = m ((c.tc : Thread nD τ).loc main_arg12) (ix2 r ⟨64 * (grp t g).val + p.val, by omega⟩) := by
  rw [← V_main_arg12 m c]
  unfold grp
  blk_ext [iblk, index9 t]

theorem spread01 (c : Dev nD) (t : Fin cfg0.N) (g : Fin 8) : Spread (iblk m c 7 t) g 0 1 (fun p => m ((c.tc : Thread nD τ).loc main_arg7) (ix2 (grp t g) p)) (fun p => m ((c.tc : Thread nD τ).loc main_arg8) (ix2 (grp t g) p)) := by
  have e := fun i q => (blk7 m c t g i q).trans (congrFun (V_main_v10 m c) _)
  have f := fun p => (multRows_at (m ((c.tc : Thread nD τ).loc main_arg7)) (m ((c.tc : Thread nD τ).loc main_arg8)) (m ((c.tc : Thread nD τ).loc main_arg9)) (m ((c.tc : Thread nD τ).loc main_arg10)) (grp t g) p).1
  exact ⟨fun p => (e _ _).trans (f p).1, fun p => (e _ _).trans (f p).2.1, fun p => (e _ _).trans (f p).2.2.1, fun p => (e _ _).trans (f p).2.2.2⟩

theorem spread23 (c : Dev nD) (t : Fin cfg0.N) (g : Fin 8) : Spread (iblk m c 7 t) g 2 3 (fun p => m ((c.tc : Thread nD τ).loc main_arg9) (ix2 (grp t g) p)) (fun p => m ((c.tc : Thread nD τ).loc main_arg10) (ix2 (grp t g) p)) := by
  have e := fun i q => (blk7 m c t g i q).trans (congrFun (V_main_v10 m c) _)
  have f := fun p => (multRows_at (m ((c.tc : Thread nD τ).loc main_arg7)) (m ((c.tc : Thread nD τ).loc main_arg8)) (m ((c.tc : Thread nD τ).loc main_arg9)) (m ((c.tc : Thread nD τ).loc main_arg10)) (grp t g) p).2
  exact ⟨fun p => (e _ _).trans (f p).1, fun p => (e _ _).trans (f p).2.1, fun p => (e _ _).trans (f p).2.2.1, fun p => (e _ _).trans (f p).2.2.2⟩

/-! ## The result arrays -/

theorem block10 (c : Dev nD) (t : Fin cfg0.N) (y : S8x544x256.Idx) (z : S64x544x256.Idx) (h0 : z 0 = grp t (y 0)) (h1 : z 1 = y 1) (h2 : z 2 = y 2) :
    joinY (outY (histSlab (scan (iblk m c 0 t) (iblk m c 3 t) (iblk m c 7 t))) (iblk m c 0 t) (iblk m c 2 t) (iblk m c 4 t)) y = valY (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) z := by
  unfold joinY valY
  rw [h0, h1, h2]
  refine (outY_at (iblk m c 0 t) (iblk m c 2 t) (iblk m c 3 t) (iblk m c 4 t) (iblk m c 7 t) (y 0) _ _ (spread01 m c t (y 0)) (y 1) (y 2)).trans ?_
  congr 1
  · funext r k; exact blk0 m c t (y 0) r k
  · funext r k; exact blk2 m c t (y 0) r k
  · funext r k; exact blk3 m c t (y 0) r k
  · funext r k; exact blk4 m c t (y 0) r k

theorem block12 (c : Dev nD) (t : Fin cfg0.N) (y : S8x4x128.Idx) (z : S64x4x128.Idx) (h0 : z 0 = grp t (y 0)) (h1 : z 1 = y 1) (h2 : z 2 = y 2) :
    joinS (outS (scan (iblk m c 0 t) (iblk m c 3 t) (iblk m c 7 t) k0_t1_loop.trips)) y = valS (m ((c.tc : Thread nD τ).loc main_arg0)) (m ((c.tc : Thread nD τ).loc main_arg3)) (m ((c.tc : Thread nD τ).loc main_arg7)) (m ((c.tc : Thread nD τ).loc main_arg8)) z := by
  unfold joinS valS
  rw [h0, h1, h2]
  refine (outS_at (iblk m c 0 t) (iblk m c 3 t) (iblk m c 7 t) (y 0) _ _ (spread01 m c t (y 0)) (y 1) (y 2)).trans ?_
  unfold bring brings
  congr 1
  funext r q
  exact Finset.sum_congr rfl fun k _ => congrArg₂ (· * ·) (blk0 m c t (y 0) r k) (blk3 m c t (y 0) k q)

theorem arr10 (c : Dev nD) : (dats m 0 c).arrAt 10 cfg0.N = valY (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) := by
  refine (dats m 0 c).arrAt_eq_of_covers 10 _ (by decide +kernel) fun t hf y => ?_
  blk_simp
  rw [after_10]
  exact block10 m c t y _ (Fin.ext (by blk_simp [index10 t, grp]; show t.val * 8 + (y 0).val = 8 * t.val + (y 0).val; omega)) (Fin.ext (by blk_simp [index10 t])) (Fin.ext (by blk_simp [index10 t]))

theorem arr12 (c : Dev nD) : (dats m 0 c).arrAt 12 cfg0.N = valS (m ((c.tc : Thread nD τ).loc main_arg0)) (m ((c.tc : Thread nD τ).loc main_arg3)) (m ((c.tc : Thread nD τ).loc main_arg7)) (m ((c.tc : Thread nD τ).loc main_arg8)) := by
  refine (dats m 0 c).arrAt_eq_of_covers 12 _ (by decide +kernel) fun t hf y => ?_
  blk_simp
  rw [after_12]
  exact block12 m c t y _ (Fin.ext (by blk_simp [index12 t, grp]; show t.val * 8 + (y 0).val = 8 * t.val + (y 0).val; omega)) (Fin.ext (by blk_simp [index12 t])) (Fin.ext (by blk_simp [index12 t]))

/-- A grid point's stepped states are those of its groups. -/
theorem stepped_at (c : Dev nD) (t : Fin cfg0.N) (g : Fin 8) (r q : Fin 128) :
    stepped (iblk m c 1 t) (iblk m c 5 t) (iblk m c 8 t) (iblk m c 9 t) g (fun p => (m ((c.tc : Thread nD τ).loc main_arg9)) (ix2 (grp t g) p)) (fun p => (m ((c.tc : Thread nD τ).loc main_arg10)) (ix2 (grp t g) p)) r q
      = steppedAt (m ((c.tc : Thread nD τ).loc main_arg1)) (m ((c.tc : Thread nD τ).loc main_arg5)) (m ((c.tc : Thread nD τ).loc main_arg9)) (m ((c.tc : Thread nD τ).loc main_arg10)) (m ((c.tc : Thread nD τ).loc main_arg11)) (m ((c.tc : Thread nD τ).loc main_arg12)) (grp t g) r q := by
  unfold steppedAt
  dsimp only [stepped]
  have e : ∀ k : Fin 128, (iblk m c 1 t : Vec Ideal S256x128 .f32) (ix2 ⟨16 + r.val, by omega⟩ k)
      = (m ((c.tc : Thread nD τ).loc main_arg1)) (ix2 ⟨8208 + r.val, by omega⟩ ⟨128 * ((grp t g).val / 8) + k.val, by omega⟩) := fun k => by
    rw [blk1]
    have h1 : 8192 + (16 + r.val) = 8208 + r.val := by omega
    have h2 : (grp t g).val / 8 = t.val := by show (8 * t.val + g.val) / 8 = t.val; omega
    exact congrArg₂ (fun i j => m ((c.tc : Thread nD τ).loc main_arg1) (ix2 i j)) (Fin.ext h1) (Fin.ext (by show 128 * t.val + k.val = 128 * ((grp t g).val / 8) + k.val; rw [h2]))
  congr 1
  · funext p; exact blk8 m c t g r p
  · funext p; exact blk9 m c t g r p
  · funext q; exact Finset.sum_congr rfl fun k _ => by rw [e, blk5]

theorem block13 (c : Dev nD) (t : Fin cfg0.N) (y : S128x512.Idx) (z : S128x4096.Idx) (h0 : z 0 = y 0) (h1 : (z 1).val = 512 * t.val + (y 1).val) :
    joinC (outRe (iblk m c 1 t) (iblk m c 5 t) (iblk m c 7 t) (iblk m c 8 t) (iblk m c 9 t)) y = valRe (m ((c.tc : Thread nD τ).loc main_arg1)) (m ((c.tc : Thread nD τ).loc main_arg5)) (m ((c.tc : Thread nD τ).loc main_arg9)) (m ((c.tc : Thread nD τ).loc main_arg10)) (m ((c.tc : Thread nD τ).loc main_arg11)) (m ((c.tc : Thread nD τ).loc main_arg12)) z := by
  have hy : (y 1).val < 512 := (y 1).isLt
  have ht : t.val < 8 := t.isLt
  have a1 : grp t ⟨(y 1).val / 64, by omega⟩ = ⟨(z 1).val / 64, by omega⟩ := Fin.ext (by show 8 * t.val + (y 1).val / 64 = (z 1).val / 64; omega)
  have a2 : (⟨(y 1).val % 64, by omega⟩ : Fin 64) = ⟨(z 1).val % 64, by omega⟩ := Fin.ext (by show (y 1).val % 64 = (z 1).val % 64; omega)
  unfold joinC valRe
  rw [h0]
  refine ((outRe_at (iblk m c 1 t) (iblk m c 5 t) (iblk m c 7 t) (iblk m c 8 t) (iblk m c 9 t) ⟨(y 1).val / 64, by omega⟩ _ _ (spread23 m c t _) (y 0) ⟨(y 1).val % 64, by omega⟩).trans
    (stepped_at m c t ⟨(y 1).val / 64, by omega⟩ (y 0) (lo ⟨(y 1).val % 64, by omega⟩))).trans ?_
  rw [a1, a2]

theorem arr13 (c : Dev nD) : (dats m 0 c).arrAt 13 cfg0.N = valRe (m ((c.tc : Thread nD τ).loc main_arg1)) (m ((c.tc : Thread nD τ).loc main_arg5)) (m ((c.tc : Thread nD τ).loc main_arg9)) (m ((c.tc : Thread nD τ).loc main_arg10)) (m ((c.tc : Thread nD τ).loc main_arg11)) (m ((c.tc : Thread nD τ).loc main_arg12)) := by
  refine (dats m 0 c).arrAt_eq_of_covers 13 _ (by decide +kernel) fun t hf y => ?_
  blk_simp
  rw [after_13]
  exact block13 m c t y _ (Fin.ext (by blk_simp [index13 t])) (by blk_simp [index13 t]; omega)

theorem block14 (c : Dev nD) (t : Fin cfg0.N) (y : S128x512.Idx) (z : S128x4096.Idx) (h0 : z 0 = y 0) (h1 : (z 1).val = 512 * t.val + (y 1).val) :
    joinC (outIm (iblk m c 1 t) (iblk m c 5 t) (iblk m c 7 t) (iblk m c 8 t) (iblk m c 9 t)) y = valIm (m ((c.tc : Thread nD τ).loc main_arg1)) (m ((c.tc : Thread nD τ).loc main_arg5)) (m ((c.tc : Thread nD τ).loc main_arg9)) (m ((c.tc : Thread nD τ).loc main_arg10)) (m ((c.tc : Thread nD τ).loc main_arg11)) (m ((c.tc : Thread nD τ).loc main_arg12)) z := by
  have hy : (y 1).val < 512 := (y 1).isLt
  have ht : t.val < 8 := t.isLt
  have a1 : grp t ⟨(y 1).val / 64, by omega⟩ = ⟨(z 1).val / 64, by omega⟩ := Fin.ext (by show 8 * t.val + (y 1).val / 64 = (z 1).val / 64; omega)
  have a2 : (⟨(y 1).val % 64, by omega⟩ : Fin 64) = ⟨(z 1).val % 64, by omega⟩ := Fin.ext (by show (y 1).val % 64 = (z 1).val % 64; omega)
  unfold joinC valIm
  rw [h0]
  refine ((outIm_at (iblk m c 1 t) (iblk m c 5 t) (iblk m c 7 t) (iblk m c 8 t) (iblk m c 9 t) ⟨(y 1).val / 64, by omega⟩ _ _ (spread23 m c t _) (y 0) ⟨(y 1).val % 64, by omega⟩).trans
    (stepped_at m c t ⟨(y 1).val / 64, by omega⟩ (y 0) (hi ⟨(y 1).val % 64, by omega⟩))).trans ?_
  rw [a1, a2]

theorem arr14 (c : Dev nD) : (dats m 0 c).arrAt 14 cfg0.N = valIm (m ((c.tc : Thread nD τ).loc main_arg1)) (m ((c.tc : Thread nD τ).loc main_arg5)) (m ((c.tc : Thread nD τ).loc main_arg9)) (m ((c.tc : Thread nD τ).loc main_arg10)) (m ((c.tc : Thread nD τ).loc main_arg11)) (m ((c.tc : Thread nD τ).loc main_arg12)) := by
  refine (dats m 0 c).arrAt_eq_of_covers 14 _ (by decide +kernel) fun t hf y => ?_
  blk_simp
  rw [after_14]
  exact block14 m c t y _ (Fin.ext (by blk_simp [index14 t])) (by blk_simp [index14 t]; omega)

theorem block11 (c : Dev nD) (t : Fin cfg0.N) (y : S128x128.Idx) (z : S128x1024.Idx) (h0 : z 0 = y 0) (h1 : (z 1).val = 128 * t.val + (y 1).val) :
    outYs (iblk m c 1 t) (iblk m c 5 t) (iblk m c 6 t) (iblk m c 7 t) (iblk m c 8 t) (iblk m c 9 t) y = valYs (m ((c.tc : Thread nD τ).loc main_arg1)) (m ((c.tc : Thread nD τ).loc main_arg5)) (m ((c.tc : Thread nD τ).loc main_arg6)) (m ((c.tc : Thread nD τ).loc main_arg9)) (m ((c.tc : Thread nD τ).loc main_arg10)) (m ((c.tc : Thread nD τ).loc main_arg11)) (m ((c.tc : Thread nD τ).loc main_arg12)) z := by
  have hy : (y 1).val < 128 := (y 1).isLt
  have ht : t.val < 8 := t.isLt
  have a1 : ∀ j : Fin 8, grp t j = ⟨8 * ((z 1).val / 128) + j.val, by omega⟩ := fun j => Fin.ext (by show 8 * t.val + j.val = 8 * ((z 1).val / 128) + j.val; omega)
  have a2 : (y 1 : Fin 128) = ⟨(z 1).val % 128, by omega⟩ := Fin.ext (by show (y 1).val = (z 1).val % 128; omega)
  have e := outYs_at (iblk m c 1 t) (iblk m c 5 t) (iblk m c 6 t) (iblk m c 7 t) (iblk m c 8 t) (iblk m c 9 t) _ _ (fun g => spread23 m c t g) (y 0) (y 1)
  rw [ix2_eta] at e
  refine e.trans ?_
  unfold valYs
  rw [h0]
  refine Finset.sum_congr rfl fun j _ => Finset.sum_congr rfl fun k _ => ?_
  refine congrArg₂ (· * ·) ((stepped_at m c t j (y 0) k).trans (congrArg (fun g => steppedAt (m ((c.tc : Thread nD τ).loc main_arg1)) (m ((c.tc : Thread nD τ).loc main_arg5)) (m ((c.tc : Thread nD τ).loc main_arg9)) (m ((c.tc : Thread nD τ).loc main_arg10)) (m ((c.tc : Thread nD τ).loc main_arg11)) (m ((c.tc : Thread nD τ).loc main_arg12)) g (y 0) k) (a1 j)))
    ((blk6 m c t j (y 1) k).trans (congrArg₂ (fun g q => (m ((c.tc : Thread nD τ).loc main_arg6)) (ix3 g q k)) (a1 j) a2))

theorem arr11 (c : Dev nD) : (dats m 0 c).arrAt 11 cfg0.N = valYs (m ((c.tc : Thread nD τ).loc main_arg1)) (m ((c.tc : Thread nD τ).loc main_arg5)) (m ((c.tc : Thread nD τ).loc main_arg6)) (m ((c.tc : Thread nD τ).loc main_arg9)) (m ((c.tc : Thread nD τ).loc main_arg10)) (m ((c.tc : Thread nD τ).loc main_arg11)) (m ((c.tc : Thread nD τ).loc main_arg12)) := by
  refine (dats m 0 c).arrAt_eq_of_covers 11 _ (by decide +kernel) fun t hf y => ?_
  blk_simp
  rw [after_11]
  exact block11 m c t y _ (Fin.ext (by blk_simp [index11 t])) (by blk_simp [index11 t]; omega)

/-- The run at exact arithmetic: the five results, and the arguments unchanged. -/
theorem run_values : θ_run (defs (F := Ideal)) (onTc (τ := τ) (main (F := Ideal))) ⟨m, fun _ => 0, ρ⟩ fun r => ∀ c : Dev nD,
    r.2.mem ((c.tc : Thread nD τ).loc main_v11_0) = valY (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8))
    ∧ r.2.mem ((c.tc : Thread nD τ).loc main_v11_1) = valYs (m ((c.tc : Thread nD τ).loc main_arg1)) (m ((c.tc : Thread nD τ).loc main_arg5)) (m ((c.tc : Thread nD τ).loc main_arg6)) (m ((c.tc : Thread nD τ).loc main_arg9)) (m ((c.tc : Thread nD τ).loc main_arg10)) (m ((c.tc : Thread nD τ).loc main_arg11)) (m ((c.tc : Thread nD τ).loc main_arg12))
    ∧ r.2.mem ((c.tc : Thread nD τ).loc main_v11_2) = valS (m ((c.tc : Thread nD τ).loc main_arg0)) (m ((c.tc : Thread nD τ).loc main_arg3)) (m ((c.tc : Thread nD τ).loc main_arg7)) (m ((c.tc : Thread nD τ).loc main_arg8))
    ∧ r.2.mem ((c.tc : Thread nD τ).loc main_v11_3) = valRe (m ((c.tc : Thread nD τ).loc main_arg1)) (m ((c.tc : Thread nD τ).loc main_arg5)) (m ((c.tc : Thread nD τ).loc main_arg9)) (m ((c.tc : Thread nD τ).loc main_arg10)) (m ((c.tc : Thread nD τ).loc main_arg11)) (m ((c.tc : Thread nD τ).loc main_arg12))
    ∧ r.2.mem ((c.tc : Thread nD τ).loc main_v11_4) = valIm (m ((c.tc : Thread nD τ).loc main_arg1)) (m ((c.tc : Thread nD τ).loc main_arg5)) (m ((c.tc : Thread nD τ).loc main_arg9)) (m ((c.tc : Thread nD τ).loc main_arg10)) (m ((c.tc : Thread nD τ).loc main_arg11)) (m ((c.tc : Thread nD τ).loc main_arg12))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12) :=
  (θ_run defs _ _).mono (fun r h c => ⟨((h.1.1 c).1 10).trans (arr10 m c), ((h.1.1 c).1 11).trans (arr11 m c), ((h.1.1 c).1 12).trans (arr12 m c), ((h.1.1 c).1 13).trans (arr13 m c), ((h.1.1 c).1 14).trans (arr14 m c), h.2.1 c⟩) (θ_run_and (run_main m ρ) (frame_any m ρ))

end Cert.Scan

end
-- ==== Proof.ScanRef.lean ====
/- The reference's loop and results at exact arithmetic, element by element. -/
module

public import proofs.«01_k».proof.Proof.ScanMath
public import proofs.«01_k».proof.Proof.Gen.RefIdeal.Run
public import Idealize.ShloMosaic.Lib.Pointwise
public import Idealize.ShloMosaic.Lib.IdealHost

@[expose] public section

set_option maxRecDepth 16384

noncomputable section

namespace Cert.ScanRef

open Cert.RefIdeal Cert.RefIdeal.Gen Cert.RefIdeal.Value Cert.Scan
open Idealize.ShloMosaic Idealize.ShloMosaic.TcCoe Idealize.ShloMosaic.Tactic
open Idealize.SL Idealize.SL.RA Idealize.SL.Sem
open Idealize.ShloMosaic.StableHlo Idealize.ShloMosaic.HostLoop

theorem st_succ (a b : EReal) (re im : Fin 128 → EReal) (re0 im0 : EReal) (k : ℕ) (hk : k < 128) :
    st a b re im re0 im0 (k + 1) = (a * (st a b re im re0 im0 k).1 - b * (st a b re im re0 im0 k).2 + re ⟨k, hk⟩, a * (st a b re im re0 im0 k).2 + b * (st a b re im re0 im0 k).1 + im ⟨k, hk⟩) := by
  show (if h : k < 128 then _ else _) = _
  rw [dif_pos hk]

/-! ## What the loop finds -/

variable (A0 : FVec Ideal S64x544x256 .bf16) (A3 : FVec Ideal S64x256x128 .bf16)

/-- What the rows of group `g` bring. -/
def rowsOf (g : Fin 64) : Fin 544 → Fin 128 → EReal := brings (fun r k => A0 (ix3 g r k)) (fun k q => A3 (ix3 g k q))

/-- The same as the reference computes it, all groups in one product. -/
def refRows : FVec Ideal S64x544x128 .f32 :=
  Host.dotGeneral dot_S64x544x256_S64x256x128_S64x544x128_2_1_1_2_0_0 none (extf .f32 A0 bitsLt_bf16_f32 : FVec Ideal S64x544x256 .f32) (extf .f32 A3 bitsLt_bf16_f32 : FVec Ideal S64x256x128 .f32)

def refRe : FVec Ideal S64x544x64 .f32 := extractStridedSlice S64x544x64 ![0, 0, 0] (refRows A0 A3) slices_S64x544x128_S64x544x64_0_0_0
def refIm : FVec Ideal S64x544x64 .f32 := extractStridedSlice S64x544x64 ![0, 0, 64] (refRows A0 A3) slices_S64x544x128_S64x544x64_0_0_64

/-- The prompts' rows, the chunk first. -/
def perChunk (X : FVec Ideal S64x544x64 .f32) : FVec Ideal S128x64x4x64 .f32 :=
  transpose S128x64x4x64 [2, 0, 1, 3] (shapeCast S64x4x128x64 (extractStridedSlice S64x512x64 ![0, 0, 0] X slices_S64x544x64_S64x512x64_0_0_0) shapeCasts_S64x512x64_S64x4x128x64) transposes_S64x4x128x64_S128x64x4x64_2_0_1_3

/-- The row after them, for every sequence. -/
def initial (X : FVec Ideal S64x544x64 .f32) : FVec Ideal S64x4x64 .f32 :=
  broadcastInDim S64x4x64 ![0, 1, 2] bcast_S64x1x64_S64x4x64_0_1_2 (broadcastInDim S64x1x64 ![0, 2] bcast_S64x64_S64x1x64_0_2 (shapeCast S64x64 (extractStridedSlice S64x1x64 ![0, 512, 0] X slices_S64x544x64_S64x1x64_0_512_0) shapeCasts_S64x1x64_S64x64))

theorem refRows_at (g : Fin 64) (r : Fin 544) (q : Fin 128) : refRows A0 A3 (ix3 g r q) = rowsOf A0 A3 g r q := by
  unfold rowsOf brings
  pointwise [refRows]

theorem refRe_at (g : Fin 64) (r : Fin 544) (p : Fin 64) : refRe A0 A3 (ix3 g r p) = rowsOf A0 A3 g r (lo p) := by
  rw [← refRows_at]
  unfold lo
  pointwise [refRe]

theorem refIm_at (g : Fin 64) (r : Fin 544) (p : Fin 64) : refIm A0 A3 (ix3 g r p) = rowsOf A0 A3 g r (hi p) := by
  rw [← refRows_at]
  unfold hi
  pointwise [refIm]

theorem perChunk_at (X : FVec Ideal S64x544x64 .f32) (j : Fin 128) (g : Fin 64) (n : Fin 4) (p : Fin 64) : perChunk X (ix4 j g n p) = X (ix3 g (seqRow n j) p) := by
  pointwise [perChunk]
  exact congrArg (fun r => X (ix3 g r p)) (Fin.ext (show n.val * 128 + j.val = 128 * n.val + j.val by omega))

theorem initial_at (X : FVec Ideal S64x544x64 .f32) (g : Fin 64) (n : Fin 4) (p : Fin 64) : initial X (ix3 g n p) = X (ix3 g ⟨512, by omega⟩ p) := by
  pointwise [initial]

variable (m : (ℓ : Loc nD τ sig) → Buf (Elt Ideal) ℓ)

theorem entry_0 (c : Dev nD) : entryContents preI m c (Proc.devRef .tc main_v20_0) = m ((c.tc : Thread nD τ).loc main_arg7) := by
  simp only [entryContents, afterL_cons, afterL_nil]
  after_reads_simp
  rfl
theorem entry_1 (c : Dev nD) : entryContents preI m c (Proc.devRef .tc main_v20_1) = m ((c.tc : Thread nD τ).loc main_arg8) := by
  simp only [entryContents, afterL_cons, afterL_nil]
  after_reads_simp
  rfl
theorem entry_2 (c : Dev nD) : entryContents preI m c (Proc.devRef .tc main_v20_2) = perChunk (refRe (m ((c.tc : Thread nD τ).loc main_arg0)) (m ((c.tc : Thread nD τ).loc main_arg3))) := by
  simp only [entryContents, afterL_cons, afterL_nil]
  after_reads_simp
  rfl
theorem entry_3 (c : Dev nD) : entryContents preI m c (Proc.devRef .tc main_v20_3) = perChunk (refIm (m ((c.tc : Thread nD τ).loc main_arg0)) (m ((c.tc : Thread nD τ).loc main_arg3))) := by
  simp only [entryContents, afterL_cons, afterL_nil]
  after_reads_simp
  rfl
theorem entry_5 (c : Dev nD) : entryContents preI m c (Proc.devRef .tc main_v20_5) = fun _ => (0#32 : BitVec 32) := by
  simp only [entryContents, afterL_cons, afterL_nil]
  after_reads_simp
  rfl
theorem entry_6 (c : Dev nD) : entryContents preI m c (Proc.devRef .tc main_v20_6) = initial (refRe (m ((c.tc : Thread nD τ).loc main_arg0)) (m ((c.tc : Thread nD τ).loc main_arg3))) := by
  simp only [entryContents, afterL_cons, afterL_nil]
  after_reads_simp
  rfl
theorem entry_7 (c : Dev nD) : entryContents preI m c (Proc.devRef .tc main_v20_7) = initial (refIm (m ((c.tc : Thread nD τ).loc main_arg0)) (m ((c.tc : Thread nD τ).loc main_arg3))) := by
  simp only [entryContents, afterL_cons, afterL_nil]
  after_reads_simp
  rfl

/-! ## One trip -/

/-- The counter's word in trip `k`. -/
def word (k : ℕ) : IVec S_ 32 := fun _ => BitVec.ofNat 32 k

/-- Where trip `k` reads and writes the chunks, as the loop computes it from the counter. -/
def starts (w : IVec S_ 32) : Fin 4 → Int :=
  fun k => (((![select (cmpi .slt w (constantI S_ 32 0#32)) (addi (id w) (constantI S_ 32 128#32)) w, constantI S_ 32 0#32, constantI S_ 32 0#32, constantI S_ 32 0#32] : Fin 4 → (⟨S_, .i32⟩ : BufTy).Contents (Elt Ideal))) k (Shape.Idx.first h_S_)).toInt

theorem starts_at (k : ℕ) (hk : k < 128) : starts (word k) = ![(k : Int), 0, 0, 0] := by
  have e : ∀ k : Fin 128, (Scalar.select (IntOp.cmpi CmpIPredicate.slt (BitVec.ofNat 32 k.val) 0#32) (IntOp.addi (BitVec.ofNat 32 k.val) 128#32) (BitVec.ofNat 32 k.val)).toInt = k.val := by decide +kernel
  funext a
  match a with
  | 0 => exact e ⟨k, hk⟩
  | 1 => rfl
  | 2 => rfl
  | 3 => rfl

theorem chunk_at (X : FVec Ideal S128x64x4x64 .f32) (k : ℕ) (hk : k < 128) (h : S128x64x4x64.Slices (fun _ => 0) S1x64x4x64) (g : Fin 64) (n : Fin 4) (p : Fin 64) :
    Host.dynamicSlice S1x64x4x64 X (starts (word k)) h (ix4 0 g n p) = X (ix4 ⟨k, hk⟩ g n p) := by
  rw [Host.dynamicSlice_apply, starts_at k hk]
  refine congrArg X (funext fun a => Fin.ext ?_)
  match a with
  | 0 =>
    show Host.clampedStart S128x64x4x64 S1x64x4x64 h.1 ![(k : Int), 0, 0, 0] 0 + 0 = k
    rw [Host.clampedStart_of_le h.1 _ 0 k rfl (show k + 1 ≤ 128 by omega), Nat.add_zero]
  | 1 =>
    show Host.clampedStart S128x64x4x64 S1x64x4x64 h.1 ![(k : Int), 0, 0, 0] 1 + g.val = g.val
    rw [Host.clampedStart_of_le h.1 _ 1 0 rfl (show 0 + 64 ≤ 64 by omega), Nat.zero_add]
  | 2 =>
    show Host.clampedStart S128x64x4x64 S1x64x4x64 h.1 ![(k : Int), 0, 0, 0] 2 + n.val = n.val
    rw [Host.clampedStart_of_le h.1 _ 2 0 rfl (show 0 + 4 ≤ 4 by omega), Nat.zero_add]
  | 3 =>
    show Host.clampedStart S128x64x4x64 S1x64x4x64 h.1 ![(k : Int), 0, 0, 0] 3 + p.val = p.val
    rw [Host.clampedStart_of_le h.1 _ 3 0 rfl (show 0 + 64 ≤ 64 by omega), Nat.zero_add]

/-- What the update of chunk `k` leaves. -/
theorem update_at (X : FVec Ideal S128x64x4x64 .f32) (U : FVec Ideal S1x64x4x64 .f32) (k : ℕ) (hk : k < 128) (h : S128x64x4x64.Slices (fun _ => 0) S1x64x4x64) (j : Fin 128) (g : Fin 64) (n : Fin 4) (p : Fin 64) :
    Host.dynamicUpdateSlice X U (starts (word k)) h (ix4 j g n p) = if j.val = k then U (ix4 0 g n p) else X (ix4 j g n p) := by
  have c0 : Host.clampedStart S128x64x4x64 S1x64x4x64 h.1 ![(k : Int), 0, 0, 0] 0 = k := Host.clampedStart_of_le h.1 _ 0 k rfl (show k + 1 ≤ 128 by omega)
  have c1 : Host.clampedStart S128x64x4x64 S1x64x4x64 h.1 ![(k : Int), 0, 0, 0] 1 = 0 := Host.clampedStart_of_le h.1 _ 1 0 rfl (show 0 + 64 ≤ 64 by omega)
  have c2 : Host.clampedStart S128x64x4x64 S1x64x4x64 h.1 ![(k : Int), 0, 0, 0] 2 = 0 := Host.clampedStart_of_le h.1 _ 2 0 rfl (show 0 + 4 ≤ 4 by omega)
  have c3 : Host.clampedStart S128x64x4x64 S1x64x4x64 h.1 ![(k : Int), 0, 0, 0] 3 = 0 := Host.clampedStart_of_le h.1 _ 3 0 rfl (show 0 + 64 ≤ 64 by omega)
  rw [Host.dynamicUpdateSlice_apply]
  simp only [starts_at k hk]
  by_cases hj : j.val = k
  · rw [if_pos hj, dif_pos ?_]
    · refine congrArg U (funext fun a => Fin.ext ?_)
      match a with
      | 0 => show j.val - Host.clampedStart S128x64x4x64 S1x64x4x64 h.1 ![(k : Int), 0, 0, 0] 0 = 0; rw [c0]; omega
      | 1 => show g.val - Host.clampedStart S128x64x4x64 S1x64x4x64 h.1 ![(k : Int), 0, 0, 0] 1 = g.val; rw [c1, Nat.sub_zero]
      | 2 => show n.val - Host.clampedStart S128x64x4x64 S1x64x4x64 h.1 ![(k : Int), 0, 0, 0] 2 = n.val; rw [c2, Nat.sub_zero]
      | 3 => show p.val - Host.clampedStart S128x64x4x64 S1x64x4x64 h.1 ![(k : Int), 0, 0, 0] 3 = p.val; rw [c3, Nat.sub_zero]
    · intro a
      match a with
      | 0 => show Host.clampedStart S128x64x4x64 S1x64x4x64 h.1 ![(k : Int), 0, 0, 0] 0 ≤ j.val ∧ j.val < Host.clampedStart S128x64x4x64 S1x64x4x64 h.1 ![(k : Int), 0, 0, 0] 0 + 1; rw [c0]; omega
      | 1 => show Host.clampedStart S128x64x4x64 S1x64x4x64 h.1 ![(k : Int), 0, 0, 0] 1 ≤ g.val ∧ g.val < Host.clampedStart S128x64x4x64 S1x64x4x64 h.1 ![(k : Int), 0, 0, 0] 1 + 64; rw [c1]; omega
      | 2 => show Host.clampedStart S128x64x4x64 S1x64x4x64 h.1 ![(k : Int), 0, 0, 0] 2 ≤ n.val ∧ n.val < Host.clampedStart S128x64x4x64 S1x64x4x64 h.1 ![(k : Int), 0, 0, 0] 2 + 4; rw [c2]; omega
      | 3 => show Host.clampedStart S128x64x4x64 S1x64x4x64 h.1 ![(k : Int), 0, 0, 0] 3 ≤ p.val ∧ p.val < Host.clampedStart S128x64x4x64 S1x64x4x64 h.1 ![(k : Int), 0, 0, 0] 3 + 64; rw [c3]; omega
  · rw [if_neg hj, dif_neg ?_]
    intro hin
    have h0 : Host.clampedStart S128x64x4x64 S1x64x4x64 h.1 ![(k : Int), 0, 0, 0] 0 ≤ j.val ∧ j.val < Host.clampedStart S128x64x4x64 S1x64x4x64 h.1 ![(k : Int), 0, 0, 0] 0 + 1 := hin 0
    rw [c0] at h0
    omega

section Trip

variable (V0 : Valuation τ sig (Elt Ideal)) (k : ℕ) (hk : k < 128) (hw : V0 (Proc.devRef .tc main_v20_5) = word k)
include hw

theorem trip_5 : step_main_v20_5 V0 = word (k + 1) := by
  unfold step_main_v20_5
  rw [hw]
  funext a
  show BitVec.ofNat 32 k + 1#32 = BitVec.ofNat 32 (k + 1)
  rw [BitVec.ofNat_add]

variable (a b : FVec Ideal S64x64 .f32) (re im : FVec Ideal S64x4x64 .f32) (P H : FVec Ideal S128x64x4x64 .f32)
  (h0 : V0 (Proc.devRef .tc main_v20_0) = a) (h1 : V0 (Proc.devRef .tc main_v20_1) = b) (h6 : V0 (Proc.devRef .tc main_v20_6) = re) (h7 : V0 (Proc.devRef .tc main_v20_7) = im)

include h0 h1 h6 h7 in
theorem trip_6 (h2 : V0 (Proc.devRef .tc main_v20_2) = P) (Y : FVec Ideal S64x4x64 .f32) (hY : step_main_v20_6 V0 = Y) (g : Fin 64) (n : Fin 4) (p : Fin 64) :
    Y (ix3 g n p) = a (ix2 g p) * re (ix3 g n p) - b (ix2 g p) * im (ix3 g n p) + P (ix4 ⟨k, hk⟩ g n p) := by
  rw [← hY, ← chunk_at P k hk sliceFits_S128x64x4x64_S1x64x4x64 g n p]
  unfold step_main_v20_6 res_main_while0b_v83 res_main_while0b_v84
  rw [h0, h1, h6, h7, h2, hw]
  change (id (addf (F := Ideal) _ (shapeCast S64x4x64 (Host.dynamicSlice S1x64x4x64 P (starts (word k)) sliceFits_S128x64x4x64_S1x64x4x64) shapeCasts_S1x64x4x64_S64x4x64)) : FVec Ideal S64x4x64 .f32) (ix3 g n p) = _
  generalize Host.dynamicSlice S1x64x4x64 P (starts (word k)) sliceFits_S128x64x4x64_S1x64x4x64 = Z
  pointwise [id]

include h0 h1 h6 h7 in
theorem trip_7 (h3 : V0 (Proc.devRef .tc main_v20_3) = P) (Y : FVec Ideal S64x4x64 .f32) (hY : step_main_v20_7 V0 = Y) (g : Fin 64) (n : Fin 4) (p : Fin 64) :
    Y (ix3 g n p) = a (ix2 g p) * im (ix3 g n p) + b (ix2 g p) * re (ix3 g n p) + P (ix4 ⟨k, hk⟩ g n p) := by
  rw [← hY, ← chunk_at P k hk sliceFits_S128x64x4x64_S1x64x4x64 g n p]
  unfold step_main_v20_7 res_main_while0b_v83 res_main_while0b_v84
  rw [h0, h1, h6, h7, h3, hw]
  change (id (addf (F := Ideal) _ (shapeCast S64x4x64 (Host.dynamicSlice S1x64x4x64 P (starts (word k)) sliceFits_S128x64x4x64_S1x64x4x64) shapeCasts_S1x64x4x64_S64x4x64)) : FVec Ideal S64x4x64 .f32) (ix3 g n p) = _
  generalize Host.dynamicSlice S1x64x4x64 P (starts (word k)) sliceFits_S128x64x4x64_S1x64x4x64 = Z
  pointwise [id]

include hk h6 in
theorem trip_8 (h8 : V0 (Proc.devRef .tc main_v20_8) = H) (Y : FVec Ideal S128x64x4x64 .f32) (hY : step_main_v20_8 V0 = Y) (j : Fin 128) (g : Fin 64) (n : Fin 4) (p : Fin 64) :
    Y (ix4 j g n p) = if j.val = k then re (ix3 g n p) else H (ix4 j g n p) := by
  rw [← hY]
  unfold step_main_v20_8
  rw [h6, h8, hw]
  refine (update_at H (broadcastInDim S1x64x4x64 ![1, 2, 3] bcast_S64x4x64_S1x64x4x64_1_2_3 re) k hk updateFits_S128x64x4x64_S1x64x4x64 j g n p).trans ?_
  pointwise

include hk h7 in
theorem trip_9 (h9 : V0 (Proc.devRef .tc main_v20_9) = H) (Y : FVec Ideal S128x64x4x64 .f32) (hY : step_main_v20_9 V0 = Y) (j : Fin 128) (g : Fin 64) (n : Fin 4) (p : Fin 64) :
    Y (ix4 j g n p) = if j.val = k then im (ix3 g n p) else H (ix4 j g n p) := by
  rw [← hY]
  unfold step_main_v20_9
  rw [h7, h9, hw]
  refine (update_at H (broadcastInDim S1x64x4x64 ![1, 2, 3] bcast_S64x4x64_S1x64x4x64_1_2_3 im) k hk updateFits_S128x64x4x64_S1x64x4x64 j g n p).trans ?_
  pointwise

end Trip

/-! ## All trips -/

/-- The contents before trip `k`. -/
abbrev atTrips (c : Dev nD) (k : ℕ) : Valuation τ sig (Elt Ideal) := STEP^[k] (entryContents preI m c)

theorem atTrips_succ (c : Dev nD) (k : ℕ) : atTrips m c (k + 1) = STEP (atTrips m c k) := Function.iterate_succ_apply' _ _ _

def carryRe (c : Dev nD) (k : ℕ) : FVec Ideal S64x4x64 .f32 := atTrips m c k (Proc.devRef .tc main_v20_6)
def carryIm (c : Dev nD) (k : ℕ) : FVec Ideal S64x4x64 .f32 := atTrips m c k (Proc.devRef .tc main_v20_7)
def histRe (c : Dev nD) (k : ℕ) : FVec Ideal S128x64x4x64 .f32 := atTrips m c k (Proc.devRef .tc main_v20_8)
def histIm (c : Dev nD) (k : ℕ) : FVec Ideal S128x64x4x64 .f32 := atTrips m c k (Proc.devRef .tc main_v20_9)

theorem trips_0 (c : Dev nD) : ∀ k, atTrips m c k (Proc.devRef .tc main_v20_0) = m ((c.tc : Thread nD τ).loc main_arg7)
  | 0 => entry_0 m c
  | k + 1 => by rw [atTrips_succ, STEP_main_v20_0]; exact trips_0 c k
theorem trips_1 (c : Dev nD) : ∀ k, atTrips m c k (Proc.devRef .tc main_v20_1) = m ((c.tc : Thread nD τ).loc main_arg8)
  | 0 => entry_1 m c
  | k + 1 => by rw [atTrips_succ, STEP_main_v20_1]; exact trips_1 c k
theorem trips_2 (c : Dev nD) : ∀ k, atTrips m c k (Proc.devRef .tc main_v20_2) = perChunk (refRe (m ((c.tc : Thread nD τ).loc main_arg0)) (m ((c.tc : Thread nD τ).loc main_arg3)))
  | 0 => entry_2 m c
  | k + 1 => by rw [atTrips_succ, STEP_main_v20_2]; exact trips_2 c k
theorem trips_3 (c : Dev nD) : ∀ k, atTrips m c k (Proc.devRef .tc main_v20_3) = perChunk (refIm (m ((c.tc : Thread nD τ).loc main_arg0)) (m ((c.tc : Thread nD τ).loc main_arg3)))
  | 0 => entry_3 m c
  | k + 1 => by rw [atTrips_succ, STEP_main_v20_3]; exact trips_3 c k
theorem trips_5 (c : Dev nD) : ∀ k, atTrips m c k (Proc.devRef .tc main_v20_5) = word k
  | 0 => entry_5 m c
  | k + 1 => by rw [atTrips_succ, STEP_main_v20_5]; exact trip_5 _ k (trips_5 c k)

/-- The state `p` of group `g`, sequence `n`, before chunk `k`. -/
abbrev stAt (c : Dev nD) (g : Fin 64) (n : Fin 4) (p : Fin 64) : ℕ → EReal × EReal :=
  st ((m ((c.tc : Thread nD τ).loc main_arg7) : FVec Ideal S64x64 .f32) (ix2 g p)) ((m ((c.tc : Thread nD τ).loc main_arg8) : FVec Ideal S64x64 .f32) (ix2 g p))
    (fun j => rowsOf (m ((c.tc : Thread nD τ).loc main_arg0)) (m ((c.tc : Thread nD τ).loc main_arg3)) g (seqRow n j) (lo p))
    (fun j => rowsOf (m ((c.tc : Thread nD τ).loc main_arg0)) (m ((c.tc : Thread nD τ).loc main_arg3)) g (seqRow n j) (hi p))
    (rowsOf (m ((c.tc : Thread nD τ).loc main_arg0)) (m ((c.tc : Thread nD τ).loc main_arg3)) g ⟨512, by omega⟩ (lo p))
    (rowsOf (m ((c.tc : Thread nD τ).loc main_arg0)) (m ((c.tc : Thread nD τ).loc main_arg3)) g ⟨512, by omega⟩ (hi p))

theorem carry_at (c : Dev nD) (g : Fin 64) (n : Fin 4) (p : Fin 64) : ∀ k ≤ 128,
    carryRe m c k (ix3 g n p) = (stAt m c g n p k).1 ∧ carryIm m c k (ix3 g n p) = (stAt m c g n p k).2
  | 0, _ => ⟨(congrFun (entry_6 m c) (ix3 g n p)).trans ((initial_at _ g n p).trans (refRe_at _ _ g _ p)),
      (congrFun (entry_7 m c) (ix3 g n p)).trans ((initial_at _ g n p).trans (refIm_at _ _ g _ p))⟩
  | k + 1, h => by
    have hk : k < 128 := h
    obtain ⟨ih1, ih2⟩ := carry_at c g n p k (by omega)
    have e6 := trip_6 (atTrips m c k) k hk (trips_5 m c k) _ _ (carryRe m c k) (carryIm m c k) _ (trips_0 m c k) (trips_1 m c k) rfl rfl (trips_2 m c k) (carryRe m c (k + 1))
      (by unfold carryRe; rw [atTrips_succ, STEP_main_v20_6]) g n p
    have e7 := trip_7 (atTrips m c k) k hk (trips_5 m c k) _ _ (carryRe m c k) (carryIm m c k) _ (trips_0 m c k) (trips_1 m c k) rfl rfl (trips_3 m c k) (carryIm m c (k + 1))
      (by unfold carryIm; rw [atTrips_succ, STEP_main_v20_7]) g n p
    rw [ih1, ih2, perChunk_at, refRe_at] at e6
    rw [ih1, ih2, perChunk_at, refIm_at] at e7
    exact ⟨e6.trans (congrArg Prod.fst (st_succ _ _ _ _ _ _ k hk)).symm, e7.trans (congrArg Prod.snd (st_succ _ _ _ _ _ _ k hk)).symm⟩

theorem hist_at (c : Dev nD) (j : Fin 128) (g : Fin 64) (n : Fin 4) (p : Fin 64) : ∀ k ≤ 128, j.val < k →
    histRe m c k (ix4 j g n p) = (stAt m c g n p j.val).1 ∧ histIm m c k (ix4 j g n p) = (stAt m c g n p j.val).2
  | 0, _, hj => absurd hj (by omega)
  | k + 1, h, hj => by
    have hk : k < 128 := h
    have e8 := trip_8 (atTrips m c k) k hk (trips_5 m c k) (carryRe m c k) (histRe m c k) rfl rfl (histRe m c (k + 1))
      (by unfold histRe; rw [atTrips_succ, STEP_main_v20_8]) j g n p
    have e9 := trip_9 (atTrips m c k) k hk (trips_5 m c k) (carryIm m c k) (histIm m c k) rfl rfl (histIm m c (k + 1))
      (by unfold histIm; rw [atTrips_succ, STEP_main_v20_9]) j g n p
    obtain ⟨c1, c2⟩ := carry_at m c g n p k (by omega)
    rw [e8, e9]
    by_cases hjk : j.val = k
    · rw [if_pos hjk, if_pos hjk, c1, c2, hjk]
      exact ⟨rfl, rfl⟩
    · rw [if_neg hjk, if_neg hjk]
      exact hist_at c j g n p k (by omega) (by omega)

/-! ## The results -/

theorem sum_halves (f : Fin 128 → EReal) : ∑ k, f k = ∑ p, f (lo p) + ∑ p, f (hi p) := Fin.sum_univ_add (a := 64) (b := 64) f

theorem sitofp_zero : (FloatOps.sitofp FTy.f32 (0#32 : BitVec 32) : Ideal .f32) = (0 : EReal) := by
  show (((0#32 : BitVec 32).toInt : ℝ) : EReal) = 0
  norm_num

/-- The prompts' rows from the states before each chunk. -/
def refY (A0 : FVec Ideal S64x544x256 .bf16) (A2 : FVec Ideal S64x256x256 .bf16) (A4 : FVec Ideal S64x256x128 .bf16) (H8 H9 : FVec Ideal S128x64x4x64 .f32) : FVec Ideal S64x544x256 .f32 :=
  addf (Host.dotGeneral dot_S64x544x256_S64x256x256_S64x544x256_2_1_1_2_0_0 none (extf .f32 A0 bitsLt_bf16_f32 : FVec Ideal S64x544x256 .f32) (extf .f32 A2 bitsLt_bf16_f32)) (Host.dotGeneral dot_S64x544x128_S64x256x128_S64x544x256_2_2_1_1_0_0 none (pad S64x544x128 ![0, 0, 0] ![0, 32, 0] ![0, 0, 0] (concatenate S64x512x128 2 [⟨S64x512x64, (shapeCast S64x512x64 (transpose S64x4x128x64 [1, 2, 0, 3] H8 transposes_S128x64x4x64_S64x4x128x64_1_2_0_3) shapeCasts_S64x4x128x64_S64x512x64)⟩, ⟨S64x512x64, (shapeCast S64x512x64 (transpose S64x4x128x64 [1, 2, 0, 3] H9 transposes_S128x64x4x64_S64x4x128x64_1_2_0_3) shapeCasts_S64x4x128x64_S64x512x64)⟩] concatenates_S64x512x64_S64x512x64_S64x512x128_d2) (sitofp .f32 (constantI S_ 32 0#32)) pads_S64x512x128_S64x544x128_000_0320_000 h_S_) (extf .f32 A4 bitsLt_bf16_f32))

theorem refY_at (A0 : FVec Ideal S64x544x256 .bf16) (A2 : FVec Ideal S64x256x256 .bf16) (A4 : FVec Ideal S64x256x128 .bf16) (H8 H9 : FVec Ideal S128x64x4x64 .f32) (w : Fin 256 → Fin 128 → EReal) (a b : Fin 64 → EReal) (g : Fin 64)
    (h8 : ∀ j n p, H8 (ix4 j g n p) = stateAt (brings (fun r k => A0 (ix3 g r k)) w) a b n j.val (lo p)) (h9 : ∀ j n p, H9 (ix4 j g n p) = stateAt (brings (fun r k => A0 (ix3 g r k)) w) a b n j.val (hi p))
    (r : Fin 544) (q : Fin 256) :
    refY A0 A2 A4 H8 H9 (ix3 g r q) = yAt (fun r k => A0 (ix3 g r k)) (fun k q => A2 (ix3 g k q)) w (fun q k => A4 (ix3 g q k)) a b r q := by
  unfold yAt
  pointwise [refY]
  rw [sum_halves]
  congr 2
  · refine Finset.sum_congr rfl fun p _ => congrArg₂ (· * ·) ?_ rfl
    unfold before
    by_cases hr : r.val < 512
    · rw [dif_pos hr, dif_pos hr, h8]
    · rw [dif_neg hr, dif_neg hr, sitofp_zero]
  · refine Finset.sum_congr rfl fun p _ => congrArg₂ (· * ·) ?_ rfl
    unfold before
    by_cases hr : r.val < 512
    · rw [dif_pos hr, dif_pos hr, h9]
    · rw [dif_neg hr, dif_neg hr, sitofp_zero]

theorem out32_eq (c : Dev nD) : out_main_v32 (atTrips m c 128) = refY (m ((c.tc : Thread nD τ).loc main_arg0)) (m ((c.tc : Thread nD τ).loc main_arg2)) (m ((c.tc : Thread nD τ).loc main_arg4)) (histRe m c 128) (histIm m c 128) := by
  unfold out_main_v32
  rw [show atTrips m c 128 (Proc.devRef .tc main_arg0) = _ from iter_main_arg0 m c 128, show atTrips m c 128 (Proc.devRef .tc main_arg2) = _ from iter_main_arg2 m c 128, show atTrips m c 128 (Proc.devRef .tc main_arg4) = _ from iter_main_arg4 m c 128]
  rfl

/-- What the sequences' tokens bring, the group in its place. -/
def refX (A1 : FVec Ideal S8704x1024 .f32) (A5 : FVec Ideal S64x128x128 .bf16) : FVec Ideal S128x64x128 .f32 :=
  (shapeCast S128x64x128 (transpose S128x8x8x128 [3, 0, 1, 2] (Host.dotGeneral dot_S8x8x128x128_S128x8x128_S8x8x128x128_2_2_13_0_0_1 none (shapeCast S8x8x128x128 (extf .f32 A5 bitsLt_bf16_f32 : FVec Ideal S64x128x128 .f32) shapeCasts_S64x128x128_S8x8x128x128) (shapeCast S128x8x128 (extractStridedSlice S128x1024 ![8208, 0] A1 slices_S8704x1024_S128x1024_8208_0) shapeCasts_S128x1024_S128x8x128)) transposes_S8x8x128x128_S128x8x8x128_3_0_1_2) shapeCasts_S128x8x8x128_S128x64x128)

theorem refX_at (A1 : FVec Ideal S8704x1024 .f32) (A5 : FVec Ideal S64x128x128 .bf16) (r : Fin 128) (g : Fin 64) (q : Fin 128) :
    refX A1 A5 (ix3 r g q) = ∑ k : Fin 128, A1 (ix2 ⟨8208 + r.val, by omega⟩ ⟨128 * (g.val / 8) + k.val, by omega⟩) * A5 (ix3 g k q) := by
  pointwise [refX]
  exact Finset.sum_congr rfl fun k _ => (mul_comm _ _).trans (congrArg (fun z => A1 (ix2 ⟨8208 + r.val, by omega⟩ z) * A5 (ix3 g k q)) (Fin.ext (show g.val / 8 * 128 + k.val = 128 * (g.val / 8) + k.val by omega)))

/-- A running sequence's states after the step: the real parts. -/
def refStepRe (A1 : FVec Ideal S8704x1024 .f32) (A5 : FVec Ideal S64x128x128 .bf16) (A9 A10 : FVec Ideal S64x64 .f32) (A11 A12 : FVec Ideal S128x4096 .f32) : FVec Ideal S128x64x64 .f32 :=
  addf (subf (mulf (broadcastInDim S128x64x64 ![0, 1, 2] bcast_S1x64x64_S128x64x64_0_1_2 (broadcastInDim S1x64x64 ![1, 2] bcast_S64x64_S1x64x64_1_2 A9)) (shapeCast S128x64x64 A11 shapeCasts_S128x4096_S128x64x64)) (mulf (broadcastInDim S128x64x64 ![0, 1, 2] bcast_S1x64x64_S128x64x64_0_1_2 (broadcastInDim S1x64x64 ![1, 2] bcast_S64x64_S1x64x64_1_2 A10)) (shapeCast S128x64x64 A12 shapeCasts_S128x4096_S128x64x64))) (extractStridedSlice S128x64x64 ![0, 0, 0] (refX A1 A5) slices_S128x64x128_S128x64x64_0_0_0)

/-- The imaginary parts. -/
def refStepIm (A1 : FVec Ideal S8704x1024 .f32) (A5 : FVec Ideal S64x128x128 .bf16) (A9 A10 : FVec Ideal S64x64 .f32) (A11 A12 : FVec Ideal S128x4096 .f32) : FVec Ideal S128x64x64 .f32 :=
  addf (addf (mulf (broadcastInDim S128x64x64 ![0, 1, 2] bcast_S1x64x64_S128x64x64_0_1_2 (broadcastInDim S1x64x64 ![1, 2] bcast_S64x64_S1x64x64_1_2 A9)) (shapeCast S128x64x64 A12 shapeCasts_S128x4096_S128x64x64)) (mulf (broadcastInDim S128x64x64 ![0, 1, 2] bcast_S1x64x64_S128x64x64_0_1_2 (broadcastInDim S1x64x64 ![1, 2] bcast_S64x64_S1x64x64_1_2 A10)) (shapeCast S128x64x64 A11 shapeCasts_S128x4096_S128x64x64))) (extractStridedSlice S128x64x64 ![0, 0, 64] (refX A1 A5) slices_S128x64x128_S128x64x64_0_0_64)

/-- A group's states after the step, the real parts first. -/
abbrev refNext (A1 : FVec Ideal S8704x1024 .f32) (A5 : FVec Ideal S64x128x128 .bf16) (A9 A10 : FVec Ideal S64x64 .f32) (A11 A12 : FVec Ideal S128x4096 .f32) (r : Fin 128) (g : Fin 64) : Fin 128 → EReal :=
  nextAt (fun p => A9 (ix2 g p)) (fun p => A10 (ix2 g p)) (fun p => A11 (ix2 r ⟨64 * g.val + p.val, by omega⟩)) (fun p => A12 (ix2 r ⟨64 * g.val + p.val, by omega⟩))
    (fun q => ∑ k : Fin 128, A1 (ix2 ⟨8208 + r.val, by omega⟩ ⟨128 * (g.val / 8) + k.val, by omega⟩) * A5 (ix3 g k q))

theorem refStepRe_at (A1 : FVec Ideal S8704x1024 .f32) (A5 : FVec Ideal S64x128x128 .bf16) (A9 A10 : FVec Ideal S64x64 .f32) (A11 A12 : FVec Ideal S128x4096 .f32) (r : Fin 128) (g p : Fin 64) : refStepRe A1 A5 A9 A10 A11 A12 (ix3 r g p) = refNext A1 A5 A9 A10 A11 A12 r g (lo p) := by
  have e : (⟨g.val * 64 + p.val, by omega⟩ : Fin 4096) = ⟨64 * g.val + p.val, by omega⟩ := Fin.ext (show g.val * 64 + p.val = 64 * g.val + p.val by omega)
  dsimp only [refNext]
  rw [nextAt_lo, ← refX_at, ← e]
  unfold lo
  pointwise [refStepRe]

theorem refStepIm_at (A1 : FVec Ideal S8704x1024 .f32) (A5 : FVec Ideal S64x128x128 .bf16) (A9 A10 : FVec Ideal S64x64 .f32) (A11 A12 : FVec Ideal S128x4096 .f32) (r : Fin 128) (g p : Fin 64) : refStepIm A1 A5 A9 A10 A11 A12 (ix3 r g p) = refNext A1 A5 A9 A10 A11 A12 r g (hi p) := by
  have e : (⟨g.val * 64 + p.val, by omega⟩ : Fin 4096) = ⟨64 * g.val + p.val, by omega⟩ := Fin.ext (show g.val * 64 + p.val = 64 * g.val + p.val by omega)
  dsimp only [refNext]
  rw [nextAt_hi, ← refX_at, ← e]
  unfold hi
  pointwise [refStepIm]

/-- The outputs of the step from the states after it. -/
def refYs (A6 : FVec Ideal S64x128x128 .bf16) (X Y : FVec Ideal S128x64x64 .f32) : FVec Ideal S128x1024 .f32 :=
  shapeCast S128x1024 (transpose S128x8x128 [2, 0, 1] (Host.dotGeneral dot_S8x8x128x128_S128x8x8x128_S8x128x128_13_23_2_0_0_1 none (shapeCast S8x8x128x128 (extf .f32 A6 bitsLt_bf16_f32 : FVec Ideal S64x128x128 .f32) shapeCasts_S64x128x128_S8x8x128x128)
    (shapeCast S128x8x8x128 (concatenate S128x64x128 2 [⟨S128x64x64, X⟩, ⟨S128x64x64, Y⟩] concatenates_S128x64x64_S128x64x64_S128x64x128_d2) shapeCasts_S128x64x128_S128x8x8x128)) transposes_S8x128x128_S128x8x128_2_0_1) shapeCasts_S128x8x128_S128x1024

theorem refYs_at (A6 : FVec Ideal S64x128x128 .bf16) (X Y : FVec Ideal S128x64x64 .f32) (N : Fin 64 → Fin 128 → EReal) (r : Fin 128) (hX : ∀ g p, X (ix3 r g p) = N g (lo p)) (hY : ∀ g p, Y (ix3 r g p) = N g (hi p)) (q : Fin 1024) :
    refYs A6 X Y (ix2 r q) = ∑ j : Fin 8, ∑ k : Fin 128, N ⟨8 * (q.val / 128) + j.val, by omega⟩ k * A6 (ix3 ⟨8 * (q.val / 128) + j.val, by omega⟩ ⟨q.val % 128, by omega⟩ k) := by
  pointwise [refYs]
  refine Finset.sum_congr rfl fun j _ => ?_
  have e : (⟨q.val / 128 * 8 + j.val, by omega⟩ : Fin 64) = ⟨8 * (q.val / 128) + j.val, by omega⟩ := Fin.ext (show q.val / 128 * 8 + j.val = 8 * (q.val / 128) + j.val by omega)
  rw [sum_halves]
  exact congrArg₂ (· + ·)
    (Finset.sum_congr rfl fun p _ => (congrArg (fun z => A6 (ix3 z ⟨q.val % 128, by omega⟩ (lo p)) * X (ix3 r z p)) e).trans ((mul_comm _ _).trans (congrArg (fun z : EReal => z * A6 (ix3 ⟨8 * (q.val / 128) + j.val, by omega⟩ ⟨q.val % 128, by omega⟩ (lo p))) (hX _ p))))
    (Finset.sum_congr rfl fun p _ => (congrArg (fun z => A6 (ix3 z ⟨q.val % 128, by omega⟩ (hi p)) * Y (ix3 r z p)) e).trans ((mul_comm _ _).trans (congrArg (fun z : EReal => z * A6 (ix3 ⟨8 * (q.val / 128) + j.val, by omega⟩ ⟨q.val % 128, by omega⟩ (hi p))) (hY _ p))))

theorem out67_at (c : Dev nD) (g : Fin 64) (n : Fin 4) (q : Fin 128) : (concatenate S64x4x128 2 [⟨S64x4x64, carryRe m c 128⟩, ⟨S64x4x64, carryIm m c 128⟩] concatenates_S64x4x64_S64x4x64_S64x4x128_d2 : FVec Ideal S64x4x128 .f32) (ix3 g n q)
    = stateAt (rowsOf (m ((c.tc : Thread nD τ).loc main_arg0)) (m ((c.tc : Thread nD τ).loc main_arg3)) g) (fun p => (m ((c.tc : Thread nD τ).loc main_arg7)) (ix2 g p)) (fun p => (m ((c.tc : Thread nD τ).loc main_arg8)) (ix2 g p)) n 128 q := by
  obtain ⟨p, rfl⟩ | ⟨p, rfl⟩ := lo_or_hi q
  · rw [stateAt_lo]
    refine Eq.trans ?_ (carry_at m c g n p 128 le_rfl).1
    have below : (lo p).val < 64 := p.isLt
    pointwise
    rw [dif_pos below]
    rfl
  · rw [stateAt_hi]
    refine Eq.trans ?_ (carry_at m c g n p 128 le_rfl).2
    have above : ¬ (hi p).val < 64 := by show ¬ 64 + p.val < 64; omega
    have e : (⟨(hi p).val - 64, by have := (hi p).isLt; omega⟩ : Fin 64) = p := Fin.ext (show 64 + p.val - 64 = p.val by omega)
    pointwise
    rw [dif_neg above, e]

theorem out68_eq (c : Dev nD) : out_main_v68 (atTrips m c 128) = shapeCast S128x4096 (refStepRe (m ((c.tc : Thread nD τ).loc main_arg1)) (m ((c.tc : Thread nD τ).loc main_arg5)) (m ((c.tc : Thread nD τ).loc main_arg9)) (m ((c.tc : Thread nD τ).loc main_arg10)) (m ((c.tc : Thread nD τ).loc main_arg11)) (m ((c.tc : Thread nD τ).loc main_arg12))) shapeCasts_S128x64x64_S128x4096 := by
  unfold out_main_v68
  rw [show atTrips m c 128 (Proc.devRef .tc main_arg1) = _ from iter_main_arg1 m c 128, show atTrips m c 128 (Proc.devRef .tc main_arg5) = _ from iter_main_arg5 m c 128, show atTrips m c 128 (Proc.devRef .tc main_arg9) = _ from iter_main_arg9 m c 128, show atTrips m c 128 (Proc.devRef .tc main_arg10) = _ from iter_main_arg10 m c 128, show atTrips m c 128 (Proc.devRef .tc main_arg11) = _ from iter_main_arg11 m c 128, show atTrips m c 128 (Proc.devRef .tc main_arg12) = _ from iter_main_arg12 m c 128]
  rfl

theorem out69_eq (c : Dev nD) : out_main_v69 (atTrips m c 128) = shapeCast S128x4096 (refStepIm (m ((c.tc : Thread nD τ).loc main_arg1)) (m ((c.tc : Thread nD τ).loc main_arg5)) (m ((c.tc : Thread nD τ).loc main_arg9)) (m ((c.tc : Thread nD τ).loc main_arg10)) (m ((c.tc : Thread nD τ).loc main_arg11)) (m ((c.tc : Thread nD τ).loc main_arg12))) shapeCasts_S128x64x64_S128x4096 := by
  unfold out_main_v69
  rw [show atTrips m c 128 (Proc.devRef .tc main_arg1) = _ from iter_main_arg1 m c 128, show atTrips m c 128 (Proc.devRef .tc main_arg5) = _ from iter_main_arg5 m c 128, show atTrips m c 128 (Proc.devRef .tc main_arg9) = _ from iter_main_arg9 m c 128, show atTrips m c 128 (Proc.devRef .tc main_arg10) = _ from iter_main_arg10 m c 128, show atTrips m c 128 (Proc.devRef .tc main_arg11) = _ from iter_main_arg11 m c 128, show atTrips m c 128 (Proc.devRef .tc main_arg12) = _ from iter_main_arg12 m c 128]
  rfl

theorem out66_eq (c : Dev nD) : out_main_v66 (atTrips m c 128) = refYs (m ((c.tc : Thread nD τ).loc main_arg6)) (refStepRe (m ((c.tc : Thread nD τ).loc main_arg1)) (m ((c.tc : Thread nD τ).loc main_arg5)) (m ((c.tc : Thread nD τ).loc main_arg9)) (m ((c.tc : Thread nD τ).loc main_arg10)) (m ((c.tc : Thread nD τ).loc main_arg11)) (m ((c.tc : Thread nD τ).loc main_arg12))) (refStepIm (m ((c.tc : Thread nD τ).loc main_arg1)) (m ((c.tc : Thread nD τ).loc main_arg5)) (m ((c.tc : Thread nD τ).loc main_arg9)) (m ((c.tc : Thread nD τ).loc main_arg10)) (m ((c.tc : Thread nD τ).loc main_arg11)) (m ((c.tc : Thread nD τ).loc main_arg12))) := by
  unfold out_main_v66
  rw [show atTrips m c 128 (Proc.devRef .tc main_arg1) = _ from iter_main_arg1 m c 128, show atTrips m c 128 (Proc.devRef .tc main_arg5) = _ from iter_main_arg5 m c 128, show atTrips m c 128 (Proc.devRef .tc main_arg6) = _ from iter_main_arg6 m c 128, show atTrips m c 128 (Proc.devRef .tc main_arg9) = _ from iter_main_arg9 m c 128, show atTrips m c 128 (Proc.devRef .tc main_arg10) = _ from iter_main_arg10 m c 128, show atTrips m c 128 (Proc.devRef .tc main_arg11) = _ from iter_main_arg11 m c 128, show atTrips m c 128 (Proc.devRef .tc main_arg12) = _ from iter_main_arg12 m c 128]
  rfl

/-- A row of the sample states with the groups side by side. -/
theorem flat_at (X : FVec Ideal S128x64x64 .f32) (r : Fin 128) (q : Fin 4096) :
    (shapeCast S128x4096 X shapeCasts_S128x64x64_S128x4096 : FVec Ideal S128x4096 .f32) (ix2 r q) = X (ix3 r ⟨q.val / 64, by omega⟩ ⟨q.val % 64, by omega⟩) := by
  pointwise

end Cert.ScanRef

end
-- ==== Proof.ScanValue.lean ====
/- The scan: the frames, and the claim that the five result arrays are the reference's. -/
module

public import proofs.«01_k».proof.Defs
public import proofs.«01_k».proof.Proof.ScanArr
public import proofs.«01_k».proof.Proof.ScanRef
public import proofs.«01_k».proof.Proof.ProgRun
public import proofs.«01_k».proof.Proof.Gen.Kernel

@[expose] public section

set_option maxRecDepth 16384

noncomputable section

namespace Cert.Scan

open Cert.KernelIdeal Cert.KernelIdeal.Gen
open Idealize.ShloMosaic Idealize.ShloMosaic.TcCoe Idealize.ShloMosaic.Tactic
open Idealize.SL Idealize.SL.RA Idealize.SL.Sem
open Idealize.ShloMosaic.Pipeline (Dat Cfg Window)

/-! ## The frames -/

theorem frame_p : Cert.quiescent_Kernel := fun m ρ _ => Cert.Prog.frame_any (F := Bits) m ρ

theorem frame_pi : Cert.quiescent_KernelIdeal := fun m ρ _ => frame_any (F := Ideal) m ρ

theorem frame_ri : Cert.quiescent_RefIdeal := fun m ρ _ =>
  (θ_run Cert.RefIdeal.defs _ _).mono
    (fun r h => ⟨fun c => (h c).2.2.2.2.2, sem_eq_zero_of_no_sems (by decide) r.2⟩)
    (Cert.RefIdeal.Value.run m ρ)

/-! ## The reference's results -/

section Reference

variable (m' : (ℓ : Loc Cert.RefIdeal.nD Cert.RefIdeal.τ Cert.RefIdeal.sig) → Buf (Elt Ideal) ℓ) (c : Dev Cert.RefIdeal.nD)

theorem ref_valY : Cert.RefIdeal.Value.out_main_v32 (ScanRef.atTrips m' c 128) = valY (m' ((c.tc : Thread Cert.RefIdeal.nD Cert.RefIdeal.τ).loc Cert.RefIdeal.main_arg0)) (m' ((c.tc : Thread Cert.RefIdeal.nD Cert.RefIdeal.τ).loc Cert.RefIdeal.main_arg2)) (m' ((c.tc : Thread Cert.RefIdeal.nD Cert.RefIdeal.τ).loc Cert.RefIdeal.main_arg3)) (m' ((c.tc : Thread Cert.RefIdeal.nD Cert.RefIdeal.τ).loc Cert.RefIdeal.main_arg4)) (m' ((c.tc : Thread Cert.RefIdeal.nD Cert.RefIdeal.τ).loc Cert.RefIdeal.main_arg7)) (m' ((c.tc : Thread Cert.RefIdeal.nD Cert.RefIdeal.τ).loc Cert.RefIdeal.main_arg8)) := by
  rw [ScanRef.out32_eq]
  funext y
  refine (congrArg (ScanRef.refY _ _ _ _ _) (eq_ix3 y)).trans (ScanRef.refY_at _ _ _ _ _ (fun k q => (m' ((c.tc : Thread Cert.RefIdeal.nD Cert.RefIdeal.τ).loc Cert.RefIdeal.main_arg3)) (ix3 (y 0) k q)) (fun p => (m' ((c.tc : Thread Cert.RefIdeal.nD Cert.RefIdeal.τ).loc Cert.RefIdeal.main_arg7)) (ix2 (y 0) p)) (fun p => (m' ((c.tc : Thread Cert.RefIdeal.nD Cert.RefIdeal.τ).loc Cert.RefIdeal.main_arg8)) (ix2 (y 0) p)) (y 0) ?_ ?_ (y 1) (y 2))
  · intro j n p
    rw [stateAt_lo]
    exact (ScanRef.hist_at m' c j (y 0) n p 128 le_rfl j.isLt).1
  · intro j n p
    rw [stateAt_hi]
    exact (ScanRef.hist_at m' c j (y 0) n p 128 le_rfl j.isLt).2

theorem ref_valYs : Cert.RefIdeal.Value.out_main_v66 (ScanRef.atTrips m' c 128) = valYs (m' ((c.tc : Thread Cert.RefIdeal.nD Cert.RefIdeal.τ).loc Cert.RefIdeal.main_arg1)) (m' ((c.tc : Thread Cert.RefIdeal.nD Cert.RefIdeal.τ).loc Cert.RefIdeal.main_arg5)) (m' ((c.tc : Thread Cert.RefIdeal.nD Cert.RefIdeal.τ).loc Cert.RefIdeal.main_arg6)) (m' ((c.tc : Thread Cert.RefIdeal.nD Cert.RefIdeal.τ).loc Cert.RefIdeal.main_arg9)) (m' ((c.tc : Thread Cert.RefIdeal.nD Cert.RefIdeal.τ).loc Cert.RefIdeal.main_arg10)) (m' ((c.tc : Thread Cert.RefIdeal.nD Cert.RefIdeal.τ).loc Cert.RefIdeal.main_arg11)) (m' ((c.tc : Thread Cert.RefIdeal.nD Cert.RefIdeal.τ).loc Cert.RefIdeal.main_arg12)) := by
  rw [ScanRef.out66_eq]
  funext y
  exact (congrArg (ScanRef.refYs _ _ _) (eq_ix2 y)).trans (ScanRef.refYs_at _ _ _ _ (y 0) (ScanRef.refStepRe_at _ _ _ _ _ _ (y 0)) (ScanRef.refStepIm_at _ _ _ _ _ _ (y 0)) (y 1))

theorem ref_valS : Cert.RefIdeal.Value.out_main_v67 (ScanRef.atTrips m' c 128) = valS (m' ((c.tc : Thread Cert.RefIdeal.nD Cert.RefIdeal.τ).loc Cert.RefIdeal.main_arg0)) (m' ((c.tc : Thread Cert.RefIdeal.nD Cert.RefIdeal.τ).loc Cert.RefIdeal.main_arg3)) (m' ((c.tc : Thread Cert.RefIdeal.nD Cert.RefIdeal.τ).loc Cert.RefIdeal.main_arg7)) (m' ((c.tc : Thread Cert.RefIdeal.nD Cert.RefIdeal.τ).loc Cert.RefIdeal.main_arg8)) := by
  funext y
  exact (congrArg (Cert.RefIdeal.Value.out_main_v67 _) (eq_ix3 y)).trans (ScanRef.out67_at m' c (y 0) (y 1) (y 2))

theorem ref_valRe : Cert.RefIdeal.Value.out_main_v68 (ScanRef.atTrips m' c 128) = valRe (m' ((c.tc : Thread Cert.RefIdeal.nD Cert.RefIdeal.τ).loc Cert.RefIdeal.main_arg1)) (m' ((c.tc : Thread Cert.RefIdeal.nD Cert.RefIdeal.τ).loc Cert.RefIdeal.main_arg5)) (m' ((c.tc : Thread Cert.RefIdeal.nD Cert.RefIdeal.τ).loc Cert.RefIdeal.main_arg9)) (m' ((c.tc : Thread Cert.RefIdeal.nD Cert.RefIdeal.τ).loc Cert.RefIdeal.main_arg10)) (m' ((c.tc : Thread Cert.RefIdeal.nD Cert.RefIdeal.τ).loc Cert.RefIdeal.main_arg11)) (m' ((c.tc : Thread Cert.RefIdeal.nD Cert.RefIdeal.τ).loc Cert.RefIdeal.main_arg12)) := by
  rw [ScanRef.out68_eq]
  funext y
  exact ((congrArg _ (eq_ix2 y)).trans (ScanRef.flat_at _ (y 0) (y 1))).trans (ScanRef.refStepRe_at _ _ _ _ _ _ (y 0) _ _)

theorem ref_valIm : Cert.RefIdeal.Value.out_main_v69 (ScanRef.atTrips m' c 128) = valIm (m' ((c.tc : Thread Cert.RefIdeal.nD Cert.RefIdeal.τ).loc Cert.RefIdeal.main_arg1)) (m' ((c.tc : Thread Cert.RefIdeal.nD Cert.RefIdeal.τ).loc Cert.RefIdeal.main_arg5)) (m' ((c.tc : Thread Cert.RefIdeal.nD Cert.RefIdeal.τ).loc Cert.RefIdeal.main_arg9)) (m' ((c.tc : Thread Cert.RefIdeal.nD Cert.RefIdeal.τ).loc Cert.RefIdeal.main_arg10)) (m' ((c.tc : Thread Cert.RefIdeal.nD Cert.RefIdeal.τ).loc Cert.RefIdeal.main_arg11)) (m' ((c.tc : Thread Cert.RefIdeal.nD Cert.RefIdeal.τ).loc Cert.RefIdeal.main_arg12)) := by
  rw [ScanRef.out69_eq]
  funext y
  exact ((congrArg _ (eq_ix2 y)).trans (ScanRef.flat_at _ (y 0) (y 1))).trans (ScanRef.refStepIm_at _ _ _ _ _ _ (y 0) _ _)

end Reference

/-! ## The value claim -/

theorem algebraic : Cert.algebraic_KernelIdeal_RefIdeal := by
  intro m g m' g' _ hagree
  refine ⟨fun c => valY (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)), fun c => valYs (m ((c.tc : Thread nD τ).loc main_arg1)) (m ((c.tc : Thread nD τ).loc main_arg5)) (m ((c.tc : Thread nD τ).loc main_arg6)) (m ((c.tc : Thread nD τ).loc main_arg9)) (m ((c.tc : Thread nD τ).loc main_arg10)) (m ((c.tc : Thread nD τ).loc main_arg11)) (m ((c.tc : Thread nD τ).loc main_arg12)), fun c => valS (m ((c.tc : Thread nD τ).loc main_arg0)) (m ((c.tc : Thread nD τ).loc main_arg3)) (m ((c.tc : Thread nD τ).loc main_arg7)) (m ((c.tc : Thread nD τ).loc main_arg8)), fun c => valRe (m ((c.tc : Thread nD τ).loc main_arg1)) (m ((c.tc : Thread nD τ).loc main_arg5)) (m ((c.tc : Thread nD τ).loc main_arg9)) (m ((c.tc : Thread nD τ).loc main_arg10)) (m ((c.tc : Thread nD τ).loc main_arg11)) (m ((c.tc : Thread nD τ).loc main_arg12)), fun c => valIm (m ((c.tc : Thread nD τ).loc main_arg1)) (m ((c.tc : Thread nD τ).loc main_arg5)) (m ((c.tc : Thread nD τ).loc main_arg9)) (m ((c.tc : Thread nD τ).loc main_arg10)) (m ((c.tc : Thread nD τ).loc main_arg11)) (m ((c.tc : Thread nD τ).loc main_arg12)), run_values m g, ?_⟩
  refine (θ_run Cert.RefIdeal.defs _ _).mono (fun r h c => ⟨?_, ?_, ?_, ?_, ?_, (h c).2.2.2.2.2⟩) (Cert.RefIdeal.Value.run (F := Ideal) m' g')
  · refine (h c).1.trans ((ref_valY m' c).trans ?_)
    obtain ⟨e0, e1, e2, e3, e4, e5, e6, e7, e8, e9, e10, e11, e12⟩ := hagree c
    rw [e0, e2, e3, e4, e7, e8]
  · refine (h c).2.1.trans ((ref_valYs m' c).trans ?_)
    obtain ⟨e0, e1, e2, e3, e4, e5, e6, e7, e8, e9, e10, e11, e12⟩ := hagree c
    rw [e1, e5, e6, e9, e10, e11, e12]
  · refine (h c).2.2.1.trans ((ref_valS m' c).trans ?_)
    obtain ⟨e0, e1, e2, e3, e4, e5, e6, e7, e8, e9, e10, e11, e12⟩ := hagree c
    rw [e0, e3, e7, e8]
  · refine (h c).2.2.2.1.trans ((ref_valRe m' c).trans ?_)
    obtain ⟨e0, e1, e2, e3, e4, e5, e6, e7, e8, e9, e10, e11, e12⟩ := hagree c
    rw [e1, e5, e9, e10, e11, e12]
  · refine (h c).2.2.2.2.1.trans ((ref_valIm m' c).trans ?_)
    obtain ⟨e0, e1, e2, e3, e4, e5, e6, e7, e8, e9, e10, e11, e12⟩ := hagree c
    rw [e1, e5, e9, e10, e11, e12]

end Cert.Scan

end
-- ==== Proof.FfnUpRun.lean ====
/- The first half of the feed-forward block: what one grid point's body leaves in its two result blocks, and the run of
   the whole call over its 44 points. Both halves of the rows go through the same gated product; the second half ends
   in 256 rows of padding, which are set to zero. The bf16 copy of the down projection is written in the first 22
   points only, and its last block stays in its buffer through the other 22. -/
module

public import proofs.«01_k».proof.Proof.Gen.UpIdeal.Frame
public import proofs.«01_k».proof.Proof.Gen.UpIdeal.Skeleton
public import Idealize.ShloMosaic.Lib.Claim
public import Idealize.ShloMosaic.Lib.Pipeline.TableIdle
public import Idealize.ShloMosaic.Lib.Pipeline.ReadBack
public import Idealize.ShloMosaic.Lib.Pipeline.ValueKit

@[expose] public section

set_option maxRecDepth 16384

noncomputable section

namespace Cert.FfnUp

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-! ## The conditions in closed form -/

/-- The point lies in the first half of the rows. -/
theorem first_half : ∀ t : Fin cfg0.N, (k0_cond1 (grid0.coords t) = 1#1 ↔ t.val < 22) ∧ (k0_cond2 (grid0.coords t) = 1#1 ↔ t.val < 22)
    ∧ (k0_cond3 (grid0.coords t) = 1#1 ↔ ¬t.val < 22) :=
  (by decide +kernel : ∀ t : Fin grid0.N, (k0_cond1 (grid0.coords t) = 1#1 ↔ t.val < 22) ∧ (k0_cond2 (grid0.coords t) = 1#1 ↔ t.val < 22)
    ∧ (k0_cond3 (grid0.coords t) = 1#1 ↔ ¬t.val < 22))

/-- The activations' block is stored at every point. -/
theorem live4 : ∀ t : Fin cfg0.N, cfg0.idle 4 (grid0.coords t) = false := by decide +kernel

/-- The weight's bf16 block is stored in the first half only. -/
theorem live5 : ∀ t : Fin cfg0.N, t.val < 22 → cfg0.idle 5 (grid0.coords t) = false := by decide +kernel
theorem idle5 : ∀ t : Fin cfg0.N, ¬t.val < 22 → cfg0.idle 5 (grid0.coords t) = true := by decide +kernel
theorem kept5 : ∀ t : Fin cfg0.N, ¬t.val < 22 → cfg0.fresh 5 t.val = false := by decide +kernel

/-! ## What a point leaves -/

/-- The activations' block at a point of the first half: four pieces of 1088 rows. -/
def actA (x0 : Vec F S4352x2048 .bf16) (x1 x2 : Vec F S2048x256 .f32) : Vec F S4352x256 .bf16 :=
  View.canon (Val := Elt F) (s := S4352x256) (e := .bf16)
    [⟨(Rect.unit (s := S4352x256) ![3264, 0] S1088x256.size inb_S4352x256_S1088x256_3264_0), k0_pay5 x1 x2 (View.ld x0 (Rect.unit (s := S4352x2048) ![3264, 0] S1088x2048.size inb_S4352x2048_S1088x2048_3264_0))⟩,
     ⟨(Rect.unit (s := S4352x256) ![2176, 0] S1088x256.size inb_S4352x256_S1088x256_2176_0), k0_pay4 (k0_pay12 (k0_pay2 x1) (View.ld x0 (Rect.unit (s := S4352x2048) ![2176, 0] S1088x2048.size inb_S4352x2048_S1088x2048_2176_0))) (k0_pay13 (k0_pay3 x2) (View.ld x0 (Rect.unit (s := S4352x2048) ![2176, 0] S1088x2048.size inb_S4352x2048_S1088x2048_2176_0))) k0_pay14⟩,
     ⟨(Rect.unit (s := S4352x256) ![1088, 0] S1088x256.size inb_S4352x256_S1088x256_1088_0), k0_pay10 (k0_pay2 x1) (k0_pay3 x2) (View.ld x0 (Rect.unit (s := S4352x2048) ![1088, 0] S1088x2048.size inb_S4352x2048_S1088x2048_1088_0))⟩,
     ⟨(Rect.unit (s := S4352x256) ![0, 0] S1088x256.size inb_S4352x256_S1088x256_0_0), k0_pay9 (k0_pay2 x1) (k0_pay3 x2) (View.ld x0 (Rect.unit (s := S4352x2048) ![0, 0] S1088x2048.size inb_S4352x2048_S1088x2048_0_0))⟩]

/-- The activations' block at a point of the second half: three pieces of 1088 rows, one of 832, and 256 rows of zeros. -/
def actB (x0 : Vec F S4352x2048 .bf16) (x1 x2 : Vec F S2048x256 .f32) : Vec F S4352x256 .bf16 :=
  View.canon (Val := Elt F) (s := S4352x256) (e := .bf16)
    [⟨(Rect.unit (s := S4352x256) ![4096, 0] S256x256.size inb_S4352x256_S256x256_4096_0), k0_pay8⟩,
     ⟨(Rect.unit (s := S4352x256) ![3264, 0] S832x256.size inb_S4352x256_S832x256_3264_0), k0_pay7 x1 x2 (View.ld x0 (Rect.unit (s := S4352x2048) ![3264, 0] S832x2048.size inb_S4352x2048_S832x2048_3264_0))⟩,
     ⟨(Rect.unit (s := S4352x256) ![2176, 0] S1088x256.size inb_S4352x256_S1088x256_2176_0), k0_pay6 (k0_pay18 (k0_pay2 x1) (View.ld x0 (Rect.unit (s := S4352x2048) ![2176, 0] S1088x2048.size inb_S4352x2048_S1088x2048_2176_0))) (k0_pay19 (k0_pay3 x2) (View.ld x0 (Rect.unit (s := S4352x2048) ![2176, 0] S1088x2048.size inb_S4352x2048_S1088x2048_2176_0))) k0_pay20⟩,
     ⟨(Rect.unit (s := S4352x256) ![1088, 0] S1088x256.size inb_S4352x256_S1088x256_1088_0), k0_pay16 (k0_pay2 x1) (k0_pay3 x2) (View.ld x0 (Rect.unit (s := S4352x2048) ![1088, 0] S1088x2048.size inb_S4352x2048_S1088x2048_1088_0))⟩,
     ⟨(Rect.unit (s := S4352x256) ![0, 0] S1088x256.size inb_S4352x256_S1088x256_0_0), k0_pay15 (k0_pay2 x1) (k0_pay3 x2) (View.ld x0 (Rect.unit (s := S4352x2048) ![0, 0] S1088x2048.size inb_S4352x2048_S1088x2048_0_0))⟩]

set_option maxHeartbeats 1000000 in
/-- The body at a point of the first half. -/
theorem body_first (c : Dev nD) (i : grid0.Coords) (arg2 : Memref sig .tc .vmem S4352x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S256x2048 .f32) (harg5 : arg5.IsWhole) (arg6 : Memref sig .tc .vmem S4352x256 .bf16) (harg6 : arg6.IsWhole) (arg7 : Memref sig .tc .vmem S256x2048 .bf16) (harg7 : arg7.IsWhole)
    (hc1 : k0_cond1 i = 1#1) (hc2 : k0_cond2 i = 1#1) (hc3 : ¬k0_cond3 i = 1#1)
    (x0 : Vec F S4352x2048 .bf16) (x1 x2 : Vec F S2048x256 .f32) (x3 : Vec F S256x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (actA x0 x1 x2) ∗ owns (c : Thread nD τ) arg7 fullShare (k0_pay1 x3)) -∗ K ⟨⟩))
      ⊢ wp frame (wpE (defs₀ (F := F)) Variants.none c none) E (cc0_ffn_up i arg2 harg2 arg3 harg3 arg4 harg4 arg5 harg5 arg6 harg6 arg7 harg7) K := by
  simp only [cc0_ffn_up_eq_skeleton]; unfold cc0_ffn_up_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  obtain rfl := harg2.eq_unread hf0; obtain rfl := harg3.eq_unread hf1; obtain rfl := harg4.eq_unread hf2; obtain rfl := harg5.eq_unread hf3
  sl_exec (disch := first | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    refine (View.read_writes_eq_canon (Val := Elt F) _ _ _ fun y => View.cover_of_tiledBy _ ![64, 256] (by sl_kernel_rfl) y).trans ?_
    sl_unfold_words
    simp (disch := decide) only [View.readAt_eq_ld, Memref.IsWhole.read_unread, View.ld_unit_lit']
    rfl
  · iexists _; isplitr; swap; · iexact H5
    ipureintro
    sl_unfold_words
    simp (disch := decide) only [View.readAt_eq_ld, Memref.IsWhole.read_unread, View.ld_unit_lit']
    refine (View.read_writes_eq_canon (Val := Elt F) _ _ _ fun y => View.cover_of_tiledL _ S256x2048.size (by sl_kernel_rfl) y).trans ?_
    exact View.canon_cons_unit_lit _ _ _ (by decide)

set_option maxHeartbeats 1000000 in
/-- The body at a point of the second half. -/
theorem body_second (c : Dev nD) (i : grid0.Coords) (arg2 : Memref sig .tc .vmem S4352x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S256x2048 .f32) (harg5 : arg5.IsWhole) (arg6 : Memref sig .tc .vmem S4352x256 .bf16) (harg6 : arg6.IsWhole) (arg7 : Memref sig .tc .vmem S256x2048 .bf16) (harg7 : arg7.IsWhole)
    (hc1 : ¬k0_cond1 i = 1#1) (hc2 : ¬k0_cond2 i = 1#1) (hc3 : k0_cond3 i = 1#1)
    (x0 : Vec F S4352x2048 .bf16) (x1 x2 : Vec F S2048x256 .f32) (x3 : Vec F S256x2048 .f32) (x5 : Vec F S256x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg7 fullShare x5
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (actB x0 x1 x2) ∗ owns (c : Thread nD τ) arg7 fullShare x5) -∗ K ⟨⟩))
      ⊢ wp frame (wpE (defs₀ (F := F)) Variants.none c none) E (cc0_ffn_up i arg2 harg2 arg3 harg3 arg4 harg4 arg5 harg5 arg6 harg6 arg7 harg7) K := by
  simp only [cc0_ffn_up_eq_skeleton]; unfold cc0_ffn_up_skel
  simp only [k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  obtain rfl := harg2.eq_unread hf0; obtain rfl := harg3.eq_unread hf1; obtain rfl := harg4.eq_unread hf2; obtain rfl := harg5.eq_unread hf3
  sl_exec (disch := first | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    refine (View.read_writes_eq_canon (Val := Elt F) _ _ _ fun y => View.cover_of_tiledBy _ ![64, 256] (by sl_kernel_rfl) y).trans ?_
    sl_unfold_words
    simp (disch := decide) only [View.readAt_eq_ld, Memref.IsWhole.read_unread, View.ld_unit_lit']
    rfl
  · iexists _; isplitr; swap; · iexact H5
    ipureintro; exact hf5

/-! ## The call -/

section Run

variable (m : (ℓ : Loc nD τ sig) → Buf (Elt F) ℓ) (ρ : Dev nD → PrngReg)

/-- The activations' block after point `t`. -/
def act (c : Dev nD) (t : Fin cfg0.N) : Vec F S4352x256 .bf16 :=
  if t.val < 22 then actA (iblk m c 0 t) (iblk m c 1 t) (iblk m c 2 t) else actB (iblk m c 0 t) (iblk m c 1 t) (iblk m c 2 t)

/-- The proof data: each input's buffer keeps its block, the activations' buffer holds `act`, the weight's buffer its
    input block rounded (in the second half the block does not move, so this is the last one written). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => act m c t
    | ⟨5, _⟩ => k0_pay1 (iblk m c 3 t)
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = act m c t := by dsimp only [dats]
theorem after_5 (c : Dev nD) (t : Fin cfg0.N) : (dats m 0 c).after 5 t = k0_pay1 (iblk m c 3 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- The down projection's block index stays where it is in the second half. -/
theorem index3 : ∀ t : Fin cfg0.N, ¬t.val < 22 → ∀ h : t.val - 1 < cfg0.N, win0_3.index ⟨t.val - 1, h⟩ = win0_3.index t :=
  (by decide +kernel : ∀ t : Fin grid0.N, ¬t.val < 22 → ∀ h : t.val - 1 < grid0.N, win0_3.index ⟨t.val - 1, h⟩ = win0_3.index t)

theorem iblk3_eq (c : Dev nD) (t : Fin cfg0.N) (ht : ¬t.val < 22) (h : t.val - 1 < cfg0.N) :
    iblk m c 3 ⟨t.val - 1, h⟩ = iblk m c 3 t := by
  funext y
  blk_ext [iblk, index3 t ht h]

theorem carry5 (c : Dev nD) (t : Fin cfg0.N) (_ : t.val ≠ 0) (hi : cfg0.idle 5 (grid0.coords t) = true) (_ : cfg0.fresh 5 t.val = false) :
    (dats m 0 c).after 5 t = (dats m 0 c).after 5 ⟨t.val - 1, by omega⟩ := by
  have ht : ¬t.val < 22 := fun h => by rw [live5 t h] at hi; exact Bool.false_ne_true hi
  rw [after_5, after_5, iblk3_eq m c t ht]

/-- In the second half the weight's buffer still holds the last block written. -/
theorem before_5 (c : Dev nD) (t : Fin cfg0.N) (ht : ¬t.val < 22) (d) : (dats m 0 c).before 5 t d = k0_pay1 (iblk m c 3 t) := by
  rw [(dats m 0 c).before_out_traj 5 rfl (fun _ _ => rfl) (carry5 m c) t.val t rfl d, kept5 t ht, if_neg Bool.false_ne_true,
    after_5, iblk3_eq m c t ht]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

/-- In the second half the weight's buffer is handed on as found, whether or not the point writes it back. -/
theorem leaves_5 (c : Dev nD) (t : Fin cfg0.N) (ht : ¬t.val < 22) :
    (owns (c : Thread nD τ) (st0_5 t) fullShare (k0_pay1 (iblk m c 3 t)) : sProp 𝕄) ⊢ (dats m 0 c).leavesExact 5 t := by
  unfold Dat.leavesExact
  rw [idle5 t ht]
  cases hf : (cfg0.win 5).flush t
  · dsimp only
    iintro H
    iexists (fun _ => Classical.arbitrary _)
    rw [before_5 m c t ht]
    iexact H
  · dsimp only
    rw [after_5]

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl]
  have e0 : (dats m 0 c).leavesExact 0 t = owns (c : Thread nD τ) (st0_0 t) fullShare (iblk m c 0 t) := by
    unfold Dat.leavesExact; rw [show cfg0.idle 0 (grid0.coords t) = false from rfl, after_0]
  have e1 : (dats m 0 c).leavesExact 1 t = owns (c : Thread nD τ) (st0_1 t) fullShare (iblk m c 1 t) := by
    unfold Dat.leavesExact; rw [show cfg0.idle 1 (grid0.coords t) = false from rfl, after_1]
  have e2 : (dats m 0 c).leavesExact 2 t = owns (c : Thread nD τ) (st0_2 t) fullShare (iblk m c 2 t) := by
    unfold Dat.leavesExact; rw [show cfg0.idle 2 (grid0.coords t) = false from rfl, after_2]
  have e3 : (dats m 0 c).leavesExact 3 t = owns (c : Thread nD τ) (st0_3 t) fullShare (iblk m c 3 t) := by
    unfold Dat.leavesExact; rw [show cfg0.idle 3 (grid0.coords t) = false from rfl, after_3]
  have e4 : (dats m 0 c).leavesExact 4 t = owns (c : Thread nD τ) (st0_4 t) fullShare (act m c t) := by
    unfold Dat.leavesExact; rw [live4 t, after_4]
  rw [e0, e1, e2, e3, e4]
  obtain ⟨c1, c2, c3⟩ := first_half t
  by_cases h : t.val < 22
  · have e5 : (dats m 0 c).leavesExact 5 t = owns (c : Thread nD τ) (st0_5 t) fullShare (k0_pay1 (iblk m c 3 t)) := by
      unfold Dat.leavesExact; rw [live5 t h, after_5]
    rw [e5, show act m c t = actA (iblk m c 0 t) (iblk m c 1 t) (iblk m c 2 t) from if_pos h]
    iintro ⟨HΦ, Ho, ⟨%d0, H0⟩, ⟨%d1, H1⟩, ⟨%d2, H2⟩, ⟨%d3, H3⟩, ⟨%d4, H4⟩, ⟨%d5, H5⟩⟩
    iapply (body_first c (grid0.coords t) _ _ _ _ _ _ _ _ _ _ _ _ (c1.mpr h) (c2.mpr h) (fun q => c3.mp q h) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · simp only [before_5 m c t h]
    rw [show act m c t = actB (iblk m c 0 t) (iblk m c 1 t) (iblk m c 2 t) from if_neg h]
    iintro ⟨HΦ, Ho, ⟨%d0, H0⟩, ⟨%d1, H1⟩, ⟨%d2, H2⟩, ⟨%d3, H3⟩, ⟨%d4, H4⟩, ⟨%d5, H5⟩⟩
    iapply (body_second c (grid0.coords t) _ _ _ _ _ _ _ _ _ _ _ _ (fun q => h (c1.mp q)) (fun q => h (c2.mp q)) (c3.mpr h) (iblk m c 0 t) (iblk m c 1 t) (iblk m c 2 t) (iblk m c 3 t) (k0_pay1 (iblk m c 3 t)) Set.univ _)
    isplitl [H0]; · iexact H0
    isplitl [H1]; · iexact H1
    isplitl [H2]; · iexact H2
    isplitl [H3]; · iexact H3
    isplitl [H4]; · iexists _; iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iapply (leaves_5 m c t h)
    iexact H5

theorem row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

set_option backward.isDefEq.respectTransparency.types false in
/-- The call, launched: every array of the pipeline ends at what the proof data say, every counter at zero. -/
theorem run_main : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run's frame: the arguments unchanged, every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Run

end Cert.FfnUp

end
-- ==== Proof.FfnUpValue.lean ====
/- The first half of the feed-forward block at exact arithmetic: the activations' array and the weight's copy, element by
   element, and the claim that they are the reference's. -/
module

public import proofs.«01_k».proof.Defs
public import proofs.«01_k».proof.Proof.FfnUpRun
public import proofs.«01_k».proof.Proof.Gen.Up
public import proofs.«01_k».proof.Proof.Gen.UpRefIdeal.Run
public import Idealize.ShloMosaic.Lib.Pointwise
public import Idealize.ShloMosaic.Lib.IdealHost

@[expose] public section

set_option maxRecDepth 16384

noncomputable section

namespace Cert.FfnUp

open Cert.UpIdeal Cert.UpIdeal.Gen
open Idealize.ShloMosaic Idealize.ShloMosaic.TcCoe Idealize.ShloMosaic.Tactic
open Idealize.SL Idealize.SL.RA Idealize.SL.Sem
open Idealize.ShloMosaic.Pipeline (Dat Cfg Window)

/-! ## The gate -/

/-- The named constant is minus the reciprocal of the natural logarithm of two. -/
theorem named_eq : Named.named (F := Ideal) Cert.UpIdeal.κ "neg_log2_e" (φ := .f32) 0xBFB8AA3B#32 = ((-((Real.log 2)⁻¹) : ℝ) : EReal) :=
  IdealRules.named_const.ideal_named_scalar _ _ _ _ rfl

/-- Two to the power of `x` times that constant is the exponential of `-x`. -/
theorem exp2_neg (x : EReal) : Ideal.exp2 (x * ((-((Real.log 2)⁻¹) : ℝ) : EReal)) = Ideal.exp (-x) := by
  have hl : 0 < Real.log 2 := Real.log_pos (by norm_num)
  have hn : -((Real.log 2)⁻¹) < 0 := neg_lt_zero.mpr (inv_pos.mpr hl)
  induction x using EReal.rec with
  | bot => rw [EReal.bot_mul_coe_of_neg hn, EReal.neg_bot]; rfl
  | top => rw [EReal.top_mul_coe_of_neg hn, EReal.neg_top]; rfl
  | coe r =>
    rw [← EReal.coe_mul, ← EReal.coe_neg, Ideal.exp2_coe, Ideal.exp_coe]
    congr 1
    show (2 : ℝ) ^ (r * -((Real.log 2)⁻¹)) = Real.exp (-r)
    rw [Real.rpow_def_of_pos (by norm_num)]
    congr 1
    field_simp

/-- The gated product of two row sums. -/
def gated (g u : EReal) : EReal := g * Ideal.div 1 (1 + Ideal.exp (-g)) * u

theorem exp2_gate (x : EReal) : FloatOps.exp2 (F := Ideal) (φ := .f32) (x * ((-((Real.log 2)⁻¹) : ℝ) : EReal)) = Ideal.exp (-x) := exp2_neg x

set_option maxHeartbeats 1000000 in
theorem actA_at (x0 : Vec Ideal S4352x2048 .bf16) (x1 x2 : Vec Ideal S2048x256 .f32) (y : S4352x256.Idx) :
    actA x0 x1 x2 y
      = gated (∑ k : Fin 2048, x0 (ix2 (y 0) k) * x1 (ix2 k (y 1))) (∑ k : Fin 2048, x0 (ix2 (y 0) k) * x2 (ix2 k (y 1))) := by
  unfold actA gated
  canon_tiles y h
  all_goals pointwise [k0_pay2, k0_pay3, k0_pay4, k0_pay5, k0_pay9, k0_pay10, k0_pay12, k0_pay13, k0_pay14, k0_pay11, named_eq, exp2_gate]
  all_goals blk_point []

set_option maxHeartbeats 1000000 in
theorem actB_at (x0 : Vec Ideal S4352x2048 .bf16) (x1 x2 : Vec Ideal S2048x256 .f32) (y : S4352x256.Idx) :
    actB x0 x1 x2 y
      = if (y 0).val < 4096 then gated (∑ k : Fin 2048, x0 (ix2 (y 0) k) * x1 (ix2 k (y 1))) (∑ k : Fin 2048, x0 (ix2 (y 0) k) * x2 (ix2 k (y 1))) else 0 := by
  unfold actB gated
  canon_tiles y h using View.cover_of_tiledBy (s := S4352x256) _ ![64, 256] (by sl_kernel_rfl) y
  · rw [if_neg (by omega)]; pointwise [k0_pay8]
  all_goals rw [if_pos (by omega)]
  all_goals pointwise [k0_pay2, k0_pay3, k0_pay6, k0_pay7, k0_pay15, k0_pay16, k0_pay18, k0_pay19, k0_pay20, k0_pay17, named_eq, exp2_gate]
  all_goals blk_point []

/-! ## The arrays after the run -/

variable (m : (ℓ : Loc nD τ sig) → Buf (Elt Ideal) ℓ) (ρ : Dev nD → PrngReg)

/-- The activations' array: gated products in the first 8448 rows, zeros below. -/
def acts (x : FVec Ideal S8704x2048 .f32) (wg wu : FVec Ideal S2048x5632 .f32) : FVec Ideal S8704x5632 .bf16 := fun y =>
  if (y 0).val < 8448 then
    gated (∑ k : Fin 2048, x (ix2 (y 0) k) * wg (ix2 k (y 1))) (∑ k : Fin 2048, x (ix2 (y 0) k) * wu (ix2 k (y 1)))
  else 0

theorem index0 : ∀ t : Fin cfg0.N, (cfg0.win 0).index t = ![t.val / 22, 0] := by decide +kernel
theorem index1 : ∀ t : Fin cfg0.N, (cfg0.win 1).index t = ![0, t.val % 22] := by decide +kernel
theorem index2 : ∀ t : Fin cfg0.N, (cfg0.win 2).index t = ![0, t.val % 22] := by decide +kernel
theorem index4 : ∀ t : Fin cfg0.N, (cfg0.win 4).index t = ![t.val / 22, t.val % 22] := by decide +kernel
theorem index5 : ∀ t : Fin cfg0.N, (cfg0.win 5).index t = (cfg0.win 3).index t := by decide +kernel

set_option maxHeartbeats 1000000 in
theorem arr4 (c : Dev nD) : (dats m 0 c).arrAt 4 cfg0.N
    = acts (m ((c.tc : Thread nD τ).loc main_arg0)) (m ((c.tc : Thread nD τ).loc main_arg1)) (m ((c.tc : Thread nD τ).loc main_arg2)) := by
  refine (dats m 0 c).arrAt_eq_of_covers 4 _ (by decide +kernel) fun t hf y => ?_
  have hN : t.val < 44 := lt_of_lt_of_eq t.isLt N_0
  blk_simp
  rw [after_4]
  have hy : (y 0).val < 4352 := (y 0).isLt
  have e : (((win0_4.blk t).view.emb y) 0).val = t.val / 22 * 4352 + (y 0).val := by blk_simp [index4 t]
  unfold act acts
  by_cases h : t.val < 22
  · rw [if_pos h, if_pos (by rw [e]; omega), actA_at]
    blk_point [iblk, V, index0 t, index1 t, index2 t, index4 t]
  · rw [if_neg h, actB_at]
    by_cases hr : (y 0).val < 4096
    · rw [if_pos hr, if_pos (by rw [e]; omega)]
      blk_point [iblk, V, index0 t, index1 t, index2 t, index4 t]
    · rw [if_neg hr, if_neg (by rw [e]; omega)]

theorem arr5 (c : Dev nD) : (dats m 0 c).arrAt 5 cfg0.N = (m ((c.tc : Thread nD τ).loc main_arg3) : S5632x2048.Idx → EReal) := by
  refine (dats m 0 c).arrAt_eq_of_covers 5 _ (by decide +kernel) fun t hf y => ?_
  blk_simp
  rw [after_5]
  pointwise [k0_pay1]
  blk_ext [iblk, V, index5 t]

/-! ## The claims -/

/-- The run with the two results named, the arguments unchanged, every counter at zero. -/
theorem run_values : θ_run (defs (F := Ideal)) (onTc (τ := τ) (main (F := Ideal))) ⟨m, fun _ => 0, ρ⟩ fun r => ∀ c : Dev nD,
    r.2.mem ((c.tc : Thread nD τ).loc main_v1_0) = acts (m ((c.tc : Thread nD τ).loc main_arg0)) (m ((c.tc : Thread nD τ).loc main_arg1)) (m ((c.tc : Thread nD τ).loc main_arg2))
    ∧ r.2.mem ((c.tc : Thread nD τ).loc main_v1_1) = (m ((c.tc : Thread nD τ).loc main_arg3) : S5632x2048.Idx → EReal)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun r h c => ⟨((h.1 c).1 4).trans (arr4 m c), ((h.1 c).1 5).trans (arr5 m c),
    ((h.1 c).2 main_arg0 (Pipeline.mem_restRefs_of main_arg0 (by decide) (by decide))).trans (V_main_arg0 m c),
    ((h.1 c).1 1).trans (((dats m 0 c).arrAt_in 1 rfl _).trans ((A_eq m c 1).trans (V_main_arg1 m c))),
    ((h.1 c).1 2).trans (((dats m 0 c).arrAt_in 2 rfl _).trans ((A_eq m c 2).trans (V_main_arg2 m c))),
    ((h.1 c).1 3).trans (((dats m 0 c).arrAt_in 3 rfl _).trans ((A_eq m c 3).trans (V_main_arg3 m c)))⟩) (run_main m ρ)

/-- A named constant read as the word that is printed for it. -/
@[reducible] def printed : Named Bits where
  named _ _ {φ} bits := Scalar.ofBits φ bits

/-- The two programs have the same text, so the run above, read at words, is this program's. -/
theorem body_eq : Cert.Up.defs₀ (F := Bits) = @Cert.UpIdeal.defs₀ Bits _ printed _ := by
  unfold Cert.Up.defs₀ Cert.UpIdeal.defs₀
  congr 1
  funext l a
  match l with
  | 0 => rfl

theorem defs_eq : Cert.Up.defs (F := Bits) = @Cert.UpIdeal.defs Bits _ printed _ := congrArg (Pipeline.defs Cert.Up.pcfgs) body_eq

theorem frame_p : Cert.quiescent_Up := fun m ρ _ => by
  rw [defs_eq]
  exact @frame_any Bits _ printed m ρ

theorem frame_pi : Cert.quiescent_UpIdeal := fun m ρ _ => frame_any (F := Ideal) m ρ

theorem frame_ri : Cert.quiescent_UpRefIdeal := fun m ρ _ =>
  (θ_run Cert.UpRefIdeal.defs _ _).mono (fun r h => ⟨fun c => (h c).2.2, Idealize.ShloMosaic.sem_eq_zero_of_no_sems (by decide) r.2⟩)
    (Cert.UpRefIdeal.Value.run (F := Ideal) m ρ)

theorem preserves : Cert.preserves_Up_UpIdeal :=
  IdealRules.named_const.statement Cert.UpIdeal.κ "neg_log2_e" .f32 0xBFB8AA3B#32 ((-((Real.log 2)⁻¹) : ℝ) : EReal) rfl

theorem sitofp_zero : FloatOps.sitofp (F := Ideal) .f32 (0#32) = (0 : EReal) := by
  show (((0#32 : BitVec 32).toInt : ℝ) : EReal) = 0
  simp

theorem algebraic : Cert.algebraic_UpIdeal_UpRefIdeal := by
  intro m g m' g' _ hagree
  refine ⟨fun c => acts (m ((c.tc : Thread nD τ).loc main_arg0)) (m ((c.tc : Thread nD τ).loc main_arg1)) (m ((c.tc : Thread nD τ).loc main_arg2)),
    fun c => (m ((c.tc : Thread nD τ).loc main_arg3) : S5632x2048.Idx → EReal), run_values m g, ?_⟩
  refine (θ_run Cert.UpRefIdeal.defs _ _).mono (fun r h c => ⟨?_, ?_, (h c).2.2⟩) (Cert.UpRefIdeal.Value.run (F := Ideal) m' g')
  · refine (h c).1.trans ?_
    obtain ⟨e0, e1, e2, e3⟩ := hagree c
    rw [e0, e1, e2]
    funext y
    unfold acts gated
    pointwise
    split
    · rfl
    · exact sitofp_zero
  · refine (h c).2.1.trans ?_
    obtain ⟨e0, e1, e2, e3⟩ := hagree c
    rw [e3]
    funext y
    pointwise

end Cert.FfnUp

end
-- ==== Proof.FfnDownRun.lean ====
/- The second half of the feed-forward block: what one grid point's body leaves in its two result blocks, and the run of
   the whole call over its 17 points. The first 16 points write the prompt's rows; the last one writes the 256 other
   rows, and the prompt's last block stays in its buffer through it. -/
module

public import proofs.«01_k».proof.Proof.Gen.DownIdeal.Frame
public import proofs.«01_k».proof.Proof.Gen.DownIdeal.Skeleton
public import Idealize.ShloMosaic.Lib.Claim
public import Idealize.ShloMosaic.Lib.Pipeline.TableIdle
public import Idealize.ShloMosaic.Lib.Pipeline.ReadBack
public import Idealize.ShloMosaic.Lib.Pipeline.ValueKit

@[expose] public section

set_option maxRecDepth 16384

noncomputable section

namespace Cert.FfnDown

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! ## The conditions in closed form -/

theorem prompt_point : ∀ t : Fin cfg0.N, (k0_cond1 (grid0.coords t) = 1#1 ↔ t.val < 16) ∧ (k0_cond2 (grid0.coords t) = 1#1 ↔ ¬t.val < 16) :=
  (by decide +kernel : ∀ t : Fin grid0.N, (k0_cond1 (grid0.coords t) = 1#1 ↔ t.val < 16) ∧ (k0_cond2 (grid0.coords t) = 1#1 ↔ ¬t.val < 16))

theorem live5 : ∀ t : Fin cfg0.N, t.val < 16 → cfg0.idle 5 (grid0.coords t) = false := by decide +kernel
theorem idle5 : ∀ t : Fin cfg0.N, ¬t.val < 16 → cfg0.idle 5 (grid0.coords t) = true := by decide +kernel
theorem kept5 : ∀ t : Fin cfg0.N, ¬t.val < 16 → cfg0.fresh 5 t.val = false ∧ (cfg0.win 5).flush t = true := by decide +kernel
theorem live6 : ∀ t : Fin cfg0.N, ¬t.val < 16 → cfg0.idle 6 (grid0.coords t) = false := by decide +kernel
theorem idle6 : ∀ t : Fin cfg0.N, t.val < 16 → cfg0.idle 6 (grid0.coords t) = true ∧ (cfg0.win 6).flush t = false := by decide +kernel

/-! ## What a point leaves -/

/-- The prompt's block: two pieces of 256 rows. -/
def promptRows (x0 : Vec F S512x5632 .bf16) (x1 : Vec F S512x2048 .f32) (x2 : Vec F S5632x2048 .bf16) (x3 x4 : Vec F S1x2048 .f32) : Vec F S512x2048 .f32 :=
  View.canon (Val := Elt F) (s := S512x2048) (e := .f32)
    [⟨(Rect.unit (s := S512x2048) ![256, 0] S256x2048.size inb_S512x2048_S256x2048_256_0), k0_pay1 (k0_pay4 (View.ld x1 (Rect.unit (s := S512x2048) ![256, 0] S256x2048.size inb_S512x2048_S256x2048_256_0))) (View.ld x0 (Rect.unit (s := S512x5632) ![256, 0] S256x5632.size inb_S512x5632_S256x5632_256_0)) x2 x3 x4⟩,
     ⟨(Rect.unit (s := S512x2048) ![0, 0] S256x2048.size inb_S512x2048_S256x2048_0_0), k0_pay3 (View.ld x1 (Rect.unit (s := S512x2048) ![0, 0] S256x2048.size inb_S512x2048_S256x2048_0_0)) (View.ld x0 (Rect.unit (s := S512x5632) ![0, 0] S256x5632.size inb_S512x5632_S256x5632_0_0)) x2 x3 x4⟩]

/-- The last point's 256 rows. -/
def lastRows (x0 : Vec F S512x5632 .bf16) (x1 : Vec F S512x2048 .f32) (x2 : Vec F S5632x2048 .bf16) (x3 x4 : Vec F S1x2048 .f32) : Vec F S256x2048 .f32 :=
  k0_pay2 (View.ld x1 (Rect.unit (s := S512x2048) ![0, 0] S256x2048.size inb_S512x2048_S256x2048_0_0)) (View.ld x0 (Rect.unit (s := S512x5632) ![0, 0] S256x5632.size inb_S512x5632_S256x5632_0_0)) x2 x3 x4

set_option maxHeartbeats 1000000 in
/-- The body at a point of the prompt. -/
theorem body_prompt (c : Dev nD) (i : grid0.Coords) (arg1 : Memref sig .tc .vmem S512x5632 .bf16) (harg1 : arg1.IsWhole) (arg2 : Memref sig .tc .vmem S512x2048 .f32) (harg2 : arg2.IsWhole) (arg3 : Memref sig .tc .vmem S5632x2048 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S256x2048 .f32) (harg7 : arg7.IsWhole)
    (hc1 : k0_cond1 i = 1#1) (hc2 : ¬k0_cond2 i = 1#1) (x0 : Vec F S512x5632 .bf16) (x1 : Vec F S512x2048 .f32) (x2 : Vec F S5632x2048 .bf16) (x3 x4 : Vec F S1x2048 .f32) (E : Set ℕ) (K : PUnit → sProp 𝕄) (R : sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ R
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (promptRows x0 x1 x2 x3 x4) ∗ R) -∗ K ⟨⟩))
      ⊢ wp frame (wpE (defs₀ (F := F)) Variants.none c none) E (cc0_ffn_down i arg1 harg1 arg2 harg2 arg3 harg3 arg4 harg4 arg5 harg5 arg6 harg6 arg7 harg7) K := by
  simp only [cc0_ffn_down_eq_skeleton]; unfold cc0_ffn_down_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, HR, Hk⟩
  obtain rfl := harg1.eq_unread hf0; obtain rfl := harg2.eq_unread hf1; obtain rfl := harg3.eq_unread hf2; obtain rfl := harg4.eq_unread hf3; obtain rfl := harg5.eq_unread hf4
  sl_exec (disch := first | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    refine (View.read_writes_eq_canon (Val := Elt F) _ _ _ fun y => View.cover_of_tiledBy _ ![256, 2048] (by sl_kernel_rfl) y).trans ?_
    sl_unfold_words
    simp (disch := decide) only [View.readAt_eq_ld, Memref.IsWhole.read_unread, View.ld_unit_lit']
    rfl
  iexact HR

set_option maxHeartbeats 1000000 in
/-- The body at the last point. -/
theorem body_last (c : Dev nD) (i : grid0.Coords) (arg1 : Memref sig .tc .vmem S512x5632 .bf16) (harg1 : arg1.IsWhole) (arg2 : Memref sig .tc .vmem S512x2048 .f32) (harg2 : arg2.IsWhole) (arg3 : Memref sig .tc .vmem S5632x2048 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S256x2048 .f32) (harg7 : arg7.IsWhole)
    (hc1 : ¬k0_cond1 i = 1#1) (hc2 : k0_cond2 i = 1#1) (x0 : Vec F S512x5632 .bf16) (x1 : Vec F S512x2048 .f32) (x2 : Vec F S5632x2048 .bf16) (x3 x4 : Vec F S1x2048 .f32) (E : Set ℕ) (K : PUnit → sProp 𝕄) (R : sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ R ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ R ∗ owns (c : Thread nD τ) arg7 fullShare (lastRows x0 x1 x2 x3 x4)) -∗ K ⟨⟩))
      ⊢ wp frame (wpE (defs₀ (F := F)) Variants.none c none) E (cc0_ffn_down i arg1 harg1 arg2 harg2 arg3 harg3 arg4 harg4 arg5 harg5 arg6 harg6 arg7 harg7) K := by
  simp only [cc0_ffn_down_eq_skeleton]; unfold cc0_ffn_down_skel
  unfold owns
  iintro ⟨⟨%f0, %hf0, H0⟩, ⟨%f1, %hf1, H1⟩, ⟨%f2, %hf2, H2⟩, ⟨%f3, %hf3, H3⟩, ⟨%f4, %hf4, H4⟩, HR, ⟨%d6, %f6, -, H6⟩, Hk⟩
  obtain rfl := harg1.eq_unread hf0; obtain rfl := harg2.eq_unread hf1; obtain rfl := harg3.eq_unread hf2; obtain rfl := harg4.eq_unread hf3; obtain rfl := harg5.eq_unread hf4
  sl_exec (disch := first | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [HR]; · iexact HR
  iexists _; isplitr; swap; · iexact H6
  ipureintro
  sl_unfold_words
  simp (disch := decide) only [View.readAt_eq_ld, Memref.IsWhole.read_unread, View.ld_unit_lit']
  refine (View.read_writes_eq_canon (Val := Elt F) _ _ _ fun y => View.cover_of_tiledBy _ ![256, 2048] (by sl_kernel_rfl) y).trans ?_
  exact View.canon_cons_unit_lit _ _ _ (by decide)

/-! ## The call -/

section Run

variable (m : (ℓ : Loc nD τ sig) → Buf (Elt F) ℓ) (ρ : Dev nD → PrngReg)

/-- The last point of the prompt. -/
def tEnd : Fin cfg0.N := ⟨15, by rw [show cfg0.N = 17 from N_0]; decide⟩

/-- The point whose block the prompt's buffer holds after point `t`. -/
def atPrompt (t : Fin cfg0.N) : Fin cfg0.N := if t.val < 16 then t else tEnd

/-- The prompt's block after point `t`. -/
def prompt (c : Dev nD) (t : Fin cfg0.N) : Vec F S512x2048 .f32 := promptRows (iblk m c 0 t) (iblk m c 1 t) (iblk m c 2 t) (iblk m c 3 t) (iblk m c 4 t)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => prompt m c (atPrompt t)
    | ⟨6, _⟩ => lastRows (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = prompt m c (atPrompt t) := by dsimp only [dats]
theorem after_6 (c : Dev nD) (t : Fin cfg0.N) : (dats m 0 c).after 6 t = lastRows (iblk m c 0 t) (iblk m c 1 t) (iblk m c 2 t) (iblk m c 3 t) (iblk m c 4 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

theorem atPrompt_pred : ∀ t : Fin cfg0.N, ¬t.val < 16 → ∀ h : t.val - 1 < cfg0.N, atPrompt ⟨t.val - 1, h⟩ = atPrompt t := by decide +kernel

theorem carry5 (c : Dev nD) (t : Fin cfg0.N) (_ : t.val ≠ 0) (hi : cfg0.idle 5 (grid0.coords t) = true) (_ : cfg0.fresh 5 t.val = false) :
    (dats m 0 c).after 5 t = (dats m 0 c).after 5 ⟨t.val - 1, by omega⟩ := by
  have ht : ¬t.val < 16 := fun h => by rw [live5 t h] at hi; exact Bool.false_ne_true hi
  rw [after_5, after_5, atPrompt_pred t ht]

/-- At the last point the prompt's buffer still holds the block before. -/
theorem before_5 (c : Dev nD) (t : Fin cfg0.N) (ht : ¬t.val < 16) (d) : (dats m 0 c).before 5 t d = prompt m c (atPrompt t) := by
  rw [(dats m 0 c).before_out_traj 5 rfl (fun _ _ => rfl) (carry5 m c) t.val t rfl d, (kept5 t ht).1, if_neg Bool.false_ne_true,
    after_5, atPrompt_pred t ht]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t)

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl]
  have e0 : (dats m 0 c).leavesExact 0 t = owns (c : Thread nD τ) (st0_0 t) fullShare (iblk m c 0 t) := by
    unfold Dat.leavesExact; rw [show cfg0.idle 0 (grid0.coords t) = false from rfl, after_0]
  have e1 : (dats m 0 c).leavesExact 1 t = owns (c : Thread nD τ) (st0_1 t) fullShare (iblk m c 1 t) := by
    unfold Dat.leavesExact; rw [show cfg0.idle 1 (grid0.coords t) = false from rfl, after_1]
  have e2 : (dats m 0 c).leavesExact 2 t = owns (c : Thread nD τ) (st0_2 t) fullShare (iblk m c 2 t) := by
    unfold Dat.leavesExact; rw [show cfg0.idle 2 (grid0.coords t) = false from rfl, after_2]
  have e3 : (dats m 0 c).leavesExact 3 t = owns (c : Thread nD τ) (st0_3 t) fullShare (iblk m c 3 t) := by
    unfold Dat.leavesExact; rw [show cfg0.idle 3 (grid0.coords t) = false from rfl, after_3]
  have e4 : (dats m 0 c).leavesExact 4 t = owns (c : Thread nD τ) (st0_4 t) fullShare (iblk m c 4 t) := by
    unfold Dat.leavesExact; rw [show cfg0.idle 4 (grid0.coords t) = false from rfl, after_4]
  rw [e0, e1, e2, e3, e4]
  obtain ⟨c1, c2⟩ := prompt_point t
  by_cases h : t.val < 16
  · have e5 : (dats m 0 c).leavesExact 5 t = owns (c : Thread nD τ) (st0_5 t) fullShare (prompt m c t) := by
      unfold Dat.leavesExact; rw [live5 t h, after_5, show atPrompt t = t from if_pos h]
    have e6 : (dats m 0 c).leavesExact 6 t = iprop(∃ d, owns (c : Thread nD τ) (st0_6 t) fullShare ((dats m 0 c).before 6 t d)) :=
      (dats m 0 c).leavesExact_idle 6 t (idle6 t h).1 (idle6 t h).2
    rw [e5, e6]
    iintro ⟨HΦ, Ho, ⟨%d0, H0⟩, ⟨%d1, H1⟩, ⟨%d2, H2⟩, ⟨%d3, H3⟩, ⟨%d4, H4⟩, ⟨%d5, H5⟩, H6⟩
    iapply (body_prompt c (grid0.coords t) _ _ _ _ _ _ _ _ _ _ _ _ _ _ (c1.mpr h) (fun q => c2.mp q h) (iblk m c 0 t) (iblk m c 1 t) (iblk m c 2 t) (iblk m c 3 t) (iblk m c 4 t) Set.univ _ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have e5 : (dats m 0 c).leavesExact 5 t = owns (c : Thread nD τ) (st0_5 t) fullShare (prompt m c (atPrompt t)) := by
      unfold Dat.leavesExact; rw [idle5 t h, (kept5 t h).2, after_5]
    have e6 : (dats m 0 c).leavesExact 6 t = owns (c : Thread nD τ) (st0_6 t) fullShare (lastRows (iblk m c 0 t) (iblk m c 1 t) (iblk m c 2 t) (iblk m c 3 t) (iblk m c 4 t)) := by
      unfold Dat.leavesExact; rw [live6 t h, after_6]
    rw [e5, e6]
    simp only [before_5 m c t h]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (body_last c (grid0.coords t) _ _ _ _ _ _ _ _ _ _ _ _ _ _ (fun q => h (c1.mp q)) (c2.mpr h) (iblk m c 0 t) (iblk m c 1 t) (iblk m c 2 t) (iblk m c 3 t) (iblk m c 4 t) Set.univ _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

set_option backward.isDefEq.respectTransparency.types false in
/-- The call, launched: every array of the pipeline ends at what the proof data say, every counter at zero. -/
theorem run_main : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run's frame: the arguments unchanged, every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Run

end Cert.FfnDown

end
-- ==== Proof.FfnDownValue.lean ====
/- The second half of the feed-forward block at exact arithmetic: the two result arrays, element by element, and the claim
   that they are the reference's. -/
module

public import proofs.«01_k».proof.Defs
public import proofs.«01_k».proof.Proof.FfnDownRun
public import proofs.«01_k».proof.Proof.Gen.Down
public import proofs.«01_k».proof.Proof.Gen.DownRefIdeal.Run
public import Idealize.ShloMosaic.Lib.Pointwise
public import Idealize.ShloMosaic.Lib.IdealHost

@[expose] public section

set_option maxRecDepth 16384

noncomputable section

namespace Cert.FfnDown

open Cert.DownIdeal Cert.DownIdeal.Gen
open Idealize.ShloMosaic Idealize.ShloMosaic.TcCoe Idealize.ShloMosaic.Tactic
open Idealize.SL Idealize.SL.RA Idealize.SL.Sem
open Idealize.ShloMosaic.Pipeline (Dat Cfg Window)

/-! ## A row's normalization -/

/-- The mean of a row. -/
def mean (h : Fin 2048 → EReal) : EReal := Ideal.div (∑ k, h k) (Ideal.ofBits .f32 0x45000000#32)

/-- The normalized row, scaled and shifted. -/
def norm (h : Fin 2048 → EReal) (g b : EReal) (q : Fin 2048) : EReal :=
  (h q - mean h) * Ideal.rsqrt (mean (fun k => (h k - mean h) * (h k - mean h)) + Ideal.ofBits .f32 0x3727C5AC#32) * g + b

/-- A row before it is normalized: the scaled input plus the product's row. -/
def pre (x : Fin 2048 → EReal) (a : Fin 5632 → EReal) (w : Fin 5632 → Fin 2048 → EReal) (q : Fin 2048) : EReal :=
  Ideal.ofBits .f32 0x3F9837F0#32 * x q + ∑ k, a k * w k q

theorem pay3_at (x : Vec Ideal S256x2048 .f32) (a : Vec Ideal S256x5632 .bf16) (w : Vec Ideal S5632x2048 .bf16) (g b : Vec Ideal S1x2048 .f32) (y : S256x2048.Idx) :
    k0_pay3 (F := Ideal) x a w g b y
      = norm (pre (fun q => x (ix2 (y 0) q)) (fun k => a (ix2 (y 0) k)) (fun k q => w (ix2 k q))) (g (ix2 0 (y 1))) (b (ix2 0 (y 1))) (y 1) := by
  unfold norm mean pre
  pointwise [k0_pay3]

theorem pay2_at (x : Vec Ideal S256x2048 .f32) (a : Vec Ideal S256x5632 .bf16) (w : Vec Ideal S5632x2048 .bf16) (g b : Vec Ideal S1x2048 .f32) (y : S256x2048.Idx) :
    k0_pay2 (F := Ideal) x a w g b y
      = norm (pre (fun q => x (ix2 (y 0) q)) (fun k => a (ix2 (y 0) k)) (fun k q => w (ix2 k q))) (g (ix2 0 (y 1))) (b (ix2 0 (y 1))) (y 1) := by
  unfold norm mean pre
  pointwise [k0_pay2]

theorem pay1_at (x : Vec Ideal S256x2048 .f32) (a : Vec Ideal S256x5632 .bf16) (w : Vec Ideal S5632x2048 .bf16) (g b : Vec Ideal S1x2048 .f32) (y : S256x2048.Idx) :
    k0_pay1 (F := Ideal) (k0_pay4 x) a w g b y
      = norm (pre (fun q => x (ix2 (y 0) q)) (fun k => a (ix2 (y 0) k)) (fun k q => w (ix2 k q))) (g (ix2 0 (y 1))) (b (ix2 0 (y 1))) (y 1) := by
  unfold norm mean pre
  pointwise [k0_pay1, k0_pay4]

theorem promptRows_at (a : Vec Ideal S512x5632 .bf16) (x : Vec Ideal S512x2048 .f32) (w : Vec Ideal S5632x2048 .bf16) (g b : Vec Ideal S1x2048 .f32) (y : S512x2048.Idx) :
    promptRows a x w g b y
      = norm (pre (fun q => x (ix2 (y 0) q)) (fun k => a (ix2 (y 0) k)) (fun k q => w (ix2 k q))) (g (ix2 0 (y 1))) (b (ix2 0 (y 1))) (y 1) := by
  unfold promptRows
  canon_tiles z h
  · rw [pay1_at, show y 1 = z 1 from Fin.ext h1]
    congr 1
    congr 1
    · funext q; pointwise; blk_ext []
    · funext k; pointwise; blk_ext []
  · rw [pay3_at, show y 1 = z 1 from Fin.ext h1]
    congr 1
    congr 1
    · funext q; pointwise; blk_ext []
    · funext k; pointwise; blk_ext []

theorem lastRows_at (a : Vec Ideal S512x5632 .bf16) (x : Vec Ideal S512x2048 .f32) (w : Vec Ideal S5632x2048 .bf16) (g b : Vec Ideal S1x2048 .f32) (y : S256x2048.Idx) :
    lastRows a x w g b y
      = norm (pre (fun q => x (ix2 ⟨(y 0).val, by have : (y 0).val < 256 := (y 0).isLt; omega⟩ q)) (fun k => a (ix2 ⟨(y 0).val, by have : (y 0).val < 256 := (y 0).isLt; omega⟩ k)) (fun k q => w (ix2 k q)))
          (g (ix2 0 (y 1))) (b (ix2 0 (y 1))) (y 1) := by
  unfold lastRows
  rw [pay2_at]
  congr 1
  congr 1
  · funext q; pointwise; blk_ext []
  · funext k; pointwise; blk_ext []

/-! ## The arrays after the run -/

variable (m : (ℓ : Loc nD τ sig) → Buf (Elt Ideal) ℓ) (ρ : Dev nD → PrngReg)

/-- The normalized rows of the whole batch. -/
def rows (a : FVec Ideal S8704x5632 .bf16) (x : FVec Ideal S8704x2048 .f32) (w : FVec Ideal S5632x2048 .bf16) (g b : FVec Ideal S1x2048 .f32)
    (r : Fin 8704) (q : Fin 2048) : EReal :=
  norm (pre (fun q => x (ix2 r q)) (fun k => a (ix2 r k)) (fun k q => w (ix2 k q))) (g (ix2 0 q)) (b (ix2 0 q)) q

/-- The prompt's rows. -/
def first (a : FVec Ideal S8704x5632 .bf16) (x : FVec Ideal S8704x2048 .f32) (w : FVec Ideal S5632x2048 .bf16) (g b : FVec Ideal S1x2048 .f32) :
    FVec Ideal S8192x2048 .f32 := fun y => rows a x w g b ⟨(y 0).val, by have : (y 0).val < 8192 := (y 0).isLt; omega⟩ (y 1)

/-- The 256 rows after them. -/
def last (a : FVec Ideal S8704x5632 .bf16) (x : FVec Ideal S8704x2048 .f32) (w : FVec Ideal S5632x2048 .bf16) (g b : FVec Ideal S1x2048 .f32) :
    FVec Ideal S256x2048 .f32 := fun y => rows a x w g b ⟨8192 + (y 0).val, by have : (y 0).val < 256 := (y 0).isLt; omega⟩ (y 1)

theorem index0 : ∀ t : Fin cfg0.N, (cfg0.win 0).index t = ![t.val, 0] := by decide +kernel
theorem index1 : ∀ t : Fin cfg0.N, (cfg0.win 1).index t = ![t.val, 0] := by decide +kernel
theorem index2 : ∀ t : Fin cfg0.N, (cfg0.win 2).index t = ![0, 0] := by decide +kernel
theorem index3 : ∀ t : Fin cfg0.N, (cfg0.win 3).index t = ![0, 0] := by decide +kernel
theorem index4 : ∀ t : Fin cfg0.N, (cfg0.win 4).index t = ![0, 0] := by decide +kernel
theorem index5 : ∀ t : Fin cfg0.N, (cfg0.win 5).index t = ![(atPrompt t).val, 0] := by decide +kernel
theorem index6 : ∀ t : Fin cfg0.N, (cfg0.win 6).index t = ![0, 0] := by decide +kernel
theorem flush6 : ∀ t : Fin cfg0.N, (cfg0.win 6).flush t = true → t.val = 16 := by decide +kernel

set_option maxHeartbeats 1000000 in
theorem arr5 (c : Dev nD) : (dats m 0 c).arrAt 5 cfg0.N
    = first (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 5 _ (by decide +kernel) fun t hf y => ?_
  blk_simp
  rw [after_5]
  unfold prompt first rows
  rw [promptRows_at]
  rw [show (win0_5.blk t).view.emb y 1 = y 1 from Fin.ext (by blk_simp [index5 t])]
  congr 1
  · congr 1
    · funext q; blk_ext [iblk, V, index5 t, index1 (atPrompt t)]
    · funext k; blk_ext [iblk, V, index5 t, index0 (atPrompt t)]
    · funext k q; blk_ext [iblk, V, index2 (atPrompt t)]
  · blk_ext [iblk, V, index3 (atPrompt t)]
  · blk_ext [iblk, V, index4 (atPrompt t)]

set_option maxHeartbeats 1000000 in
theorem arr6 (c : Dev nD) : (dats m 0 c).arrAt 6 cfg0.N
    = last (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 6 _ (by decide +kernel) fun t hf y => ?_
  have ht := flush6 t hf
  blk_simp
  rw [after_6]
  unfold last rows
  rw [lastRows_at]
  rw [show (win0_6.blk t).view.emb y 1 = y 1 from Fin.ext (by blk_simp [index6 t])]
  congr 1
  · congr 1
    · funext q; blk_ext [iblk, V, index6 t, index1 t, ht]
    · funext k; blk_ext [iblk, V, index6 t, index0 t, ht]
    · funext k q; blk_ext [iblk, V, index2 t]
  · blk_ext [iblk, V, index3 t]
  · blk_ext [iblk, V, index4 t]

/-! ## The claims -/

/-- The run with the two results named, the arguments unchanged. -/
theorem run_values : θ_run (defs (F := Ideal)) (onTc (τ := τ) (main (F := Ideal))) ⟨m, fun _ => 0, ρ⟩ fun r => ∀ c : Dev nD,
    r.2.mem ((c.tc : Thread nD τ).loc main_v0_0) = first (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    ∧ r.2.mem ((c.tc : Thread nD τ).loc main_v0_1) = last (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun r h c => ⟨((h.1 c).1 5).trans (arr5 m c), ((h.1 c).1 6).trans (arr6 m c),
    ((h.1 c).1 0).trans (((dats m 0 c).arrAt_in 0 rfl _).trans (A_eq m c 0)),
    ((h.1 c).1 1).trans (((dats m 0 c).arrAt_in 1 rfl _).trans (A_eq m c 1)),
    ((h.1 c).1 2).trans (((dats m 0 c).arrAt_in 2 rfl _).trans (A_eq m c 2)),
    ((h.1 c).1 3).trans (((dats m 0 c).arrAt_in 3 rfl _).trans (A_eq m c 3)),
    ((h.1 c).1 4).trans (((dats m 0 c).arrAt_in 4 rfl _).trans (A_eq m c 4))⟩) (run_main m ρ)

/-- The two programs have the same text, so the run above, read at words, is this program's. -/
theorem body_eq : Cert.Down.defs₀ (F := Bits) = Cert.DownIdeal.defs₀ (F := Bits) := by
  unfold Cert.Down.defs₀ Cert.DownIdeal.defs₀
  congr 1
  funext l a
  match l with
  | 0 => rfl

theorem defs_eq : Cert.Down.defs (F := Bits) = Cert.DownIdeal.defs (F := Bits) := congrArg (Pipeline.defs Cert.Down.pcfgs) body_eq

theorem frame_p : Cert.quiescent_Down := fun m ρ _ => by
  rw [defs_eq]
  exact frame_any (F := Bits) m ρ

theorem frame_pi : Cert.quiescent_DownIdeal := fun m ρ _ => frame_any (F := Ideal) m ρ

theorem frame_ri : Cert.quiescent_DownRefIdeal := fun m ρ _ =>
  (θ_run Cert.DownRefIdeal.defs _ _).mono (fun r h => ⟨fun c => (h c).2.2, Idealize.ShloMosaic.sem_eq_zero_of_no_sems (by decide) r.2⟩)
    (Cert.DownRefIdeal.Value.run (F := Ideal) m ρ)

theorem algebraic : Cert.algebraic_DownIdeal_DownRefIdeal := by
  intro m g m' g' _ hagree
  refine ⟨fun c => first (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)),
    fun c => last (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)), run_values m g, ?_⟩
  refine (θ_run Cert.DownRefIdeal.defs _ _).mono (fun r h c => ⟨?_, ?_, (h c).2.2⟩) (Cert.DownRefIdeal.Value.run (F := Ideal) m' g')
  · refine (h c).1.trans ?_
    obtain ⟨e0, e1, e2, e3, e4⟩ := hagree c
    rw [e0, e1, e2, e3, e4]
    clear h
    funext y
    unfold first rows norm mean pre
    pointwise
  · refine (h c).2.1.trans ?_
    obtain ⟨e0, e1, e2, e3, e4⟩ := hagree c
    rw [e0, e1, e2, e3, e4]
    clear h
    funext y
    unfold last rows norm mean pre
    pointwise

end Cert.FfnDown

end
-- ==== Proof.lean ====
/- The certificate's claim: the scan and the two calls of the feed-forward block, each with its frames, its idealization and its value claim. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.RefIdeal
public import proofs.«01_k».proof.Proof.Gen.RefIdeal.Run
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpRefIdeal
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.UpRefIdeal.Run
public import proofs.«01_k».proof.Proof.Gen.DownRefIdeal.Run
public import proofs.«01_k».proof.Proof.ScanValue
public import proofs.«01_k».proof.Proof.FfnUpValue
public import proofs.«01_k».proof.Proof.FfnDownValue

@[expose] public section

noncomputable section

namespace Cert.Proof

theorem claim : Cert.Claim := ⟨Cert.Kernel.Gen.facts, Cert.KernelIdeal.Gen.facts, Cert.RefIdeal.Gen.facts,
  Cert.Up.Gen.facts, Cert.UpIdeal.Gen.facts, Cert.UpRefIdeal.Gen.facts, Cert.Down.Gen.facts, Cert.DownIdeal.Gen.facts, Cert.DownRefIdeal.Gen.facts,
  Cert.Scan.frame_p, Cert.Scan.frame_pi, Cert.Scan.frame_ri,
  Cert.FfnUp.frame_p, Cert.FfnUp.frame_pi, Cert.FfnUp.frame_ri, Cert.FfnDown.frame_p, Cert.FfnDown.frame_pi, Cert.FfnDown.frame_ri,
  trivial, Cert.Scan.algebraic, Cert.FfnUp.preserves, Cert.FfnUp.algebraic, trivial, Cert.FfnDown.algebraic⟩

end Cert.Proof

end
